-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v5)) (v2 : (c : Dev Cert.KernelIdeal.nD) → Buf (Elt Ideal) ((c.tc : Thread Cert.KernelIdeal.nD Cert.KernelIdeal.τ).loc Cert.KernelIdeal.main_v6)) (v3 : (c : Dev Cert.KernelIdeal.nD) → Buf (Elt Ideal) ((c.tc : Thread Cert.KernelIdeal.nD Cert.KernelIdeal.τ).loc Cert.KernelIdeal.main_v2)) (v4 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_v6) = v2 c
          ∧ r.2.mem ((c.tc : Thread Cert.KernelIdeal.nD Cert.KernelIdeal.τ).loc Cert.KernelIdeal.main_v2) = v3 c
          ∧ r.2.mem ((c.tc : Thread Cert.KernelIdeal.nD Cert.KernelIdeal.τ).loc Cert.KernelIdeal.main_v7) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63_0) = v0 c
          ∧ r.2.mem ((c.tc : Thread Cert.ReferenceIdeal.nD Cert.ReferenceIdeal.τ).loc Cert.ReferenceIdeal.main_v63_1) = v1 c
          ∧ r.2.mem ((c.tc : Thread Cert.ReferenceIdeal.nD Cert.ReferenceIdeal.τ).loc Cert.ReferenceIdeal.main_v24) = v2 c
          ∧ r.2.mem ((c.tc : Thread Cert.ReferenceIdeal.nD Cert.ReferenceIdeal.τ).loc Cert.ReferenceIdeal.main_v63_2) = v3 c
          ∧ r.2.mem ((c.tc : Thread Cert.ReferenceIdeal.nD Cert.ReferenceIdeal.τ).loc Cert.ReferenceIdeal.main_v53) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x3072x8192 : Shape := ⟨3, ![8, 3072, 8192]⟩
abbrev S8192x8192 : Shape := ⟨2, ![8192, 8192]⟩
abbrev S24576x8192 : Shape := ⟨2, ![24576, 8192]⟩
abbrev S1x1 : Shape := ⟨2, ![1, 1]⟩
abbrev S384x8192 : Shape := ⟨2, ![384, 8192]⟩
abbrev S128x8192 : Shape := ⟨2, ![128, 8192]⟩
abbrev S16x8192 : Shape := ⟨2, ![16, 8192]⟩
abbrev S8x8192 : Shape := ⟨2, ![8, 8192]⟩
abbrev S24x16x8192 : Shape := ⟨3, ![24, 16, 8192]⟩
abbrev S16x8x8192 : Shape := ⟨3, ![16, 8, 8192]⟩
abbrev S1x16x8192 : Shape := ⟨3, ![1, 16, 8192]⟩
abbrev S1 : Shape := ⟨1, ![1]⟩
abbrev S1x1x1 : Shape := ⟨3, ![1, 1, 1]⟩
abbrev S1x8x8192 : Shape := ⟨3, ![1, 8, 8192]⟩
abbrev S1x256 : Shape := ⟨2, ![1, 256]⟩
abbrev S1x1x256 : Shape := ⟨3, ![1, 1, 256]⟩
abbrev S256x8192 : Shape := ⟨2, ![256, 8192]⟩
abbrev S3072x8x8192 : Shape := ⟨3, ![3072, 8, 8192]⟩
abbrev S1024x8192 : Shape := ⟨2, ![1024, 8192]⟩
abbrev S128x8x1024 : Shape := ⟨3, ![128, 8, 1024]⟩
abbrev S2x1024x8192 : Shape := ⟨3, ![2, 1024, 8192]⟩
abbrev S1x128x8192 : Shape := ⟨3, ![1, 128, 8192]⟩
abbrev S1x1024x8192 : Shape := ⟨3, ![1, 1024, 8192]⟩
abbrev S1024x1024 : Shape := ⟨2, ![1024, 1024]⟩
abbrev S_ : Shape := ⟨0, ![]⟩

abbrev nBuf : Space → Nat
  | .hbm => 14
  | .vmem => 19
  | .smem => 8
  | _ => 0

abbrev bufTy : (tb : Table) → Fin (tcTables nBuf tb) → BufTy
  | .hbm, ⟨0, _⟩ => ⟨S8x3072x8192, .bf16⟩
  | .hbm, ⟨1, _⟩ => ⟨S8192x8192, .f32⟩
  | .hbm, ⟨2, _⟩ => ⟨S24576x8192, .bf16⟩
  | .hbm, ⟨3, _⟩ => ⟨S1x1, .f32⟩
  | .hbm, ⟨4, _⟩ => ⟨S1x1, .f32⟩
  | .hbm, ⟨5, _⟩ => ⟨S1x1, .f32⟩
  | .hbm, ⟨6, _⟩ => ⟨S1x1, .f32⟩
  | .hbm, ⟨7, _⟩ => ⟨S8192x8192, .fp8e4m3⟩
  | .hbm, ⟨8, _⟩ => ⟨S3072x8x8192, .bf16⟩
  | .hbm, ⟨9, _⟩ => ⟨S24576x8192, .fp8e5m2⟩
  | .hbm, ⟨10, _⟩ => ⟨S8x3072x8192, .bf16⟩
  | .hbm, ⟨11, _⟩ => ⟨S8x3072x8192, .fp8e5m2⟩
  | .hbm, ⟨12, _⟩ => ⟨S_, .f32⟩
  | .hbm, ⟨13, _⟩ => ⟨S_, .f32⟩
  | .local _ .vmem, ⟨0, _⟩ => ⟨S384x8192, .bf16⟩
  | .local _ .vmem, ⟨1, _⟩ => ⟨S384x8192, .bf16⟩
  | .local _ .vmem, ⟨2, _⟩ => ⟨S128x8192, .f32⟩
  | .local _ .vmem, ⟨3, _⟩ => ⟨S128x8192, .f32⟩
  | .local _ .vmem, ⟨4, _⟩ => ⟨S16x8192, .bf16⟩
  | .local _ .vmem, ⟨5, _⟩ => ⟨S8x8192, .f32⟩
  | .local _ .vmem, ⟨6, _⟩ => ⟨S256x8192, .f32⟩
  | .local _ .vmem, ⟨7, _⟩ => ⟨S256x8192, .f32⟩
  | .local _ .vmem, ⟨8, _⟩ => ⟨S256x8192, .fp8e4m3⟩
  | .local _ .vmem, ⟨9, _⟩ => ⟨S256x8192, .fp8e4m3⟩
  | .local _ .vmem, ⟨10, _⟩ => ⟨S128x8192, .bf16⟩
  | .local _ .vmem, ⟨11, _⟩ => ⟨S128x8192, .bf16⟩
  | .local _ .vmem, ⟨12, _⟩ => ⟨S1024x8192, .fp8e4m3⟩
  | .local _ .vmem, ⟨13, _⟩ => ⟨S1024x8192, .fp8e4m3⟩
  | .local _ .vmem, ⟨14, _⟩ => ⟨S128x8x1024, .bf16⟩
  | .local _ .vmem, ⟨15, _⟩ => ⟨S128x8x1024, .bf16⟩
  | .local _ .vmem, ⟨16, _⟩ => ⟨S128x8192, .fp8e5m2⟩
  | .local _ .vmem, ⟨17, _⟩ => ⟨S128x8192, .fp8e5m2⟩
  | .local _ .vmem, ⟨18, _⟩ => ⟨S2x1024x8192, .fp8e5m2⟩
  | .local _ .smem, ⟨0, _⟩ => ⟨S1x1, .f32⟩
  | .local _ .smem, ⟨1, _⟩ => ⟨S1x1, .f32⟩
  | .local _ .smem, ⟨2, _⟩ => ⟨S1x1, .f32⟩
  | .local _ .smem, ⟨3, _⟩ => ⟨S1x1, .f32⟩
  | .local _ .smem, ⟨4, _⟩ => ⟨S1x1, .f32⟩
  | .local _ .smem, ⟨5, _⟩ => ⟨S1x1, .f32⟩
  | .local _ .smem, ⟨6, _⟩ => ⟨S1x1, .f32⟩
  | .local _ .smem, ⟨7, _⟩ => ⟨S1x1, .f32⟩
  | _, _ => ⟨S8x3072x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .smem, ⟨0, _⟩ => true
  | .smem, ⟨1, _⟩ => true
  | .smem, ⟨2, _⟩ => true
  | .smem, ⟨3, _⟩ => true
  | .smem, ⟨4, _⟩ => true
  | .smem, ⟨5, _⟩ => true
  | .smem, ⟨6, _⟩ => true
  | .smem, ⟨7, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩
abbrev main_v1_3 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg3_0 : Ref sig .tc := ⟨.vmem, 10, rfl⟩
abbrev cc2_stg3_1 : Ref sig .tc := ⟨.vmem, 11, rfl⟩
abbrev cc2_stg4_0 : Ref sig .tc := ⟨.vmem, 12, rfl⟩
abbrev cc2_stg4_1 : Ref sig .tc := ⟨.vmem, 13, rfl⟩
abbrev cc2_stg5_0 : Ref sig .tc := ⟨.vmem, 14, rfl⟩
abbrev cc2_stg5_1 : Ref sig .tc := ⟨.vmem, 15, rfl⟩
abbrev cc2_stg6_0 : Ref sig .tc := ⟨.vmem, 16, rfl⟩
abbrev cc2_stg6_1 : Ref sig .tc := ⟨.vmem, 17, rfl⟩
abbrev cc2_scratch0 : Ref sig .tc := ⟨.vmem, 18, rfl⟩
abbrev cc0_stg2_0 : Ref sig .tc := ⟨.smem, 0, rfl⟩
abbrev cc0_stg3_0 : Ref sig .tc := ⟨.smem, 1, rfl⟩
abbrev cc0_stg4_0 : Ref sig .tc := ⟨.smem, 2, rfl⟩
abbrev cc0_stg5_0 : Ref sig .tc := ⟨.smem, 3, rfl⟩
abbrev cc1_stg0_0 : Ref sig .tc := ⟨.smem, 4, rfl⟩
abbrev cc2_stg0_0 : Ref sig .tc := ⟨.smem, 5, rfl⟩
abbrev cc2_stg1_0 : Ref sig .tc := ⟨.smem, 6, rfl⟩
abbrev cc2_stg2_0 : Ref sig .tc := ⟨.smem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc1_sem0_0 : DmaSem sig := 8
abbrev cc1_sem1_0 : DmaSem sig := 9
abbrev cc1_sem1_1 : DmaSem sig := 10
abbrev cc1_sem2_0 : DmaSem sig := 11
abbrev cc1_sem2_1 : DmaSem sig := 12
abbrev cc2_sem0_0 : DmaSem sig := 13
abbrev cc2_sem1_0 : DmaSem sig := 14
abbrev cc2_sem2_0 : DmaSem sig := 15
abbrev cc2_sem3_0 : DmaSem sig := 16
abbrev cc2_sem3_1 : DmaSem sig := 17
abbrev cc2_sem4_0 : DmaSem sig := 18
abbrev cc2_sem4_1 : DmaSem sig := 19
abbrev cc2_sem5_0 : DmaSem sig := 20
abbrev cc2_sem5_1 : DmaSem sig := 21
abbrev cc2_sem6_0 : DmaSem sig := 22
abbrev cc2_sem6_1 : DmaSem sig := 23

abbrev nD : Nat := 1
abbrev τ : Topo := Topo.v7x

variable {F : FTy → Type} [FloatOps F]

abbrev grid0 : Pipeline.Grid := ⟨1, ![64], ![false]⟩

def k0_cond3 (i : grid0.Coords) : BitVec 1 :=
  let arg0 : BitVec 32 := BitVec.ofNat 32 (i 0).val
  let c63_i32 : BitVec 32 := 63#32
  let v15 : BitVec 1 := Scalar.cmpi .eq arg0 c63_i32
  let v16 : BitVec 32 := Scalar.extui v15
  let c0_i32_7 : BitVec 32 := 0#32
  let v17 : BitVec 1 := Scalar.cmpi .ne v16 c0_i32_7
  v17

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S384x8192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .smem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .smem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .smem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .smem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .smem S1x1 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S256x8192 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x8192 .fp8e4m3 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨2, ![25, 8], ![false, false]⟩

def k2_cond1 (i : grid2.Coords) : BitVec 1 :=
  let arg0 : BitVec 32 := BitVec.ofNat 32 (i 0).val
  let c24_i32 : BitVec 32 := 24#32
  let v0 : BitVec 1 := Scalar.cmpi .slt arg0 c24_i32
  let v1 : BitVec 32 := Scalar.extui v0
  let c0_i32 : BitVec 32 := 0#32
  let v2 : BitVec 1 := Scalar.cmpi .ne v1 c0_i32
  v2

def k2_off1 (i : grid2.Coords) : Fin 3 → Nat :=
  let arg0 : BitVec 32 := BitVec.ofNat 32 (i 0).val
  let c2_i32 : BitVec 32 := 2#32
  let c0_i32_8 : BitVec 32 := 0#32
  let v20 : BitVec 1 := Scalar.cmpi .eq c2_i32 c0_i32_8
  let c1_i32 : BitVec 32 := 1#32
  let v21 : BitVec 32 := Scalar.select v20 c1_i32 c2_i32
  let v22 : BitVec 32 := Scalar.remsi arg0 v21
  let c0_i32_10 : BitVec 32 := 0#32
  let v24 : BitVec 1 := Scalar.cmpi .slt v22 c0_i32_10
  let c0_i32_11 : BitVec 32 := 0#32
  let v25 : BitVec 1 := Scalar.cmpi .slt v21 c0_i32_11
  let v26 : BitVec 1 := Scalar.xori v24 v25
  let c0_i32_9 : BitVec 32 := 0#32
  let v23 : BitVec 1 := Scalar.cmpi .ne v22 c0_i32_9
  let v27 : BitVec 1 := Scalar.andi v26 v23
  let v28 : BitVec 32 := Scalar.addi v22 v21
  let v29 : BitVec 32 := Scalar.select v27 v28 v22
  let v31 : Index := Scalar.indexCast v29
  let arg1 : BitVec 32 := BitVec.ofNat 32 (i 1).val
  let c128_i32 : BitVec 32 := 128#32
  let v30 : BitVec 32 := Scalar.muli arg1 c128_i32
  let v32 : Index := Scalar.indexCast v30
  let c0_12 : Index := 0#32
  ![v31.toNat, v32.toNat, 0]
def k2_cond2 (i : grid2.Coords) : BitVec 1 :=
  let arg0 : BitVec 32 := BitVec.ofNat 32 (i 0).val
  let c0_i32_0 : BitVec 32 := 0#32
  let v3 : BitVec 1 := Scalar.cmpi .sgt arg0 c0_i32_0
  let v4 : BitVec 32 := Scalar.extui v3
  let c0_i32_1 : BitVec 32 := 0#32
  let v5 : BitVec 1 := Scalar.cmpi .ne v4 c0_i32_1
  v5

def k2_off2 (i : grid2.Coords) : Fin 3 → Nat :=
  let arg0 : BitVec 32 := BitVec.ofNat 32 (i 0).val
  let c1_i32 : BitVec 32 := 1#32
  let v6 : BitVec 32 := Scalar.subi arg0 c1_i32
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi v6 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let v17 : Index := Scalar.indexCast v16
  let c0 : Index := 0#32
  let c0_7 : Index := 0#32
  ![v17.toNat, 0, 0]
def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c191_i32 : BitVec 32 := 191#32
  let v2 : BitVec 32 := Scalar.minsi v1 c191_i32
  let c0_i32 : BitVec 32 := 0#32
  let c0_i32_0 : BitVec 32 := 0#32
  ![v2.toNat, c0_i32.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .sgt arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc2_transform_5 (i : grid2.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let v2 : BitVec 1 := Scalar.cmpi .sgt arg0 c0_i32_0
  let c0_i32_1 : BitVec 32 := 0#32
  let v3 : BitVec 32 := Scalar.select v2 arg1 c0_i32_1
  let c0_i32_2 : BitVec 32 := 0#32
  let c0_i32_3 : BitVec 32 := 0#32
  ![v1.toNat, c0_i32_2.toNat, v3.toNat]

def cc2_transform_6 (i : grid2.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c191_i32 : BitVec 32 := 191#32
  let v2 : BitVec 32 := Scalar.minsi v1 c191_i32
  let c0_i32 : BitVec 32 := 0#32
  let c0_i32_0 : BitVec 32 := 0#32
  ![v2.toNat, c0_i32.toNat]

abbrev stage2_0 : Fin 1 → Memref sig .tc .smem S1x1 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false, false]

abbrev stage2_1 : Fin 1 → Memref sig .tc .smem S1x1 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 1 → Memref sig .tc .smem S1x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 2 → Memref sig .tc .vmem S128x8192 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev stage2_4 : Fin 2 → Memref sig .tc .vmem S1024x8192 .fp8e4m3 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

abbrev stage2_5 : Fin 2 → Memref sig .tc .vmem S128x8x1024 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true]

abbrev stage2_6 : Fin 2 → Memref sig .tc .vmem S128x8192 .fp8e5m2 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, true]
-- ==== ReferenceIdeal.lean ====
abbrev S8x3072x8192 : Shape := ⟨3, ![8, 3072, 8192]⟩
abbrev S8192x8192 : Shape := ⟨2, ![8192, 8192]⟩
abbrev S_ : Shape := ⟨0, ![]⟩
abbrev S254 : Shape := ⟨1, ![254]⟩
abbrev S1x1 : Shape := ⟨2, ![1, 1]⟩
abbrev S24576x8192 : Shape := ⟨2, ![24576, 8192]⟩

abbrev nBuf : Space → Nat
  | .hbm => 122
  | .vmem => 5
  | .smem => 4
  | _ => 0

abbrev bufTy : (tb : Table) → Fin (tcTables nBuf tb) → BufTy
  | .hbm, ⟨0, _⟩ => ⟨S8x3072x8192, .bf16⟩
  | .hbm, ⟨1, _⟩ => ⟨S8192x8192, .f32⟩
  | .hbm, ⟨2, _⟩ => ⟨S8x3072x8192, .bf16⟩
  | .hbm, ⟨3, _⟩ => ⟨S_, .bf16⟩
  | .hbm, ⟨4, _⟩ => ⟨S_, .bf16⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S254, .i32⟩
  | .hbm, ⟨9, _⟩ => ⟨S_, .i32⟩
  | .hbm, ⟨10, _⟩ => ⟨S254, .i32⟩
  | .hbm, ⟨11, _⟩ => ⟨S254, .i32⟩
  | .hbm, ⟨12, _⟩ => ⟨S_, .i32⟩
  | .hbm, ⟨13, _⟩ => ⟨S254, .i32⟩
  | .hbm, ⟨14, _⟩ => ⟨S254, .i32⟩
  | .hbm, ⟨15, _⟩ => ⟨S254, .f32⟩
  | .hbm, ⟨16, _⟩ => ⟨S254, .f32⟩
  | .hbm, ⟨17, _⟩ => ⟨S254, .i1⟩
  | .hbm, ⟨18, _⟩ => ⟨S254, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S_, .i1⟩
  | .hbm, ⟨23, _⟩ => ⟨S_, .f32⟩
  | .hbm, ⟨24, _⟩ => ⟨S_, .i1⟩
  | .hbm, ⟨25, _⟩ => ⟨S_, .i1⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .f32⟩
  | .hbm, ⟨32, _⟩ => ⟨S_, .i1⟩
  | .hbm, ⟨33, _⟩ => ⟨S_, .i32⟩
  | .hbm, ⟨34, _⟩ => ⟨S_, .i32⟩
  | .hbm, ⟨35, _⟩ => ⟨S_, .i32⟩
  | .hbm, ⟨36, _⟩ => ⟨S_, .i32⟩
  | .hbm, ⟨37, _⟩ => ⟨S_, .i32⟩
  | .hbm, ⟨38, _⟩ => ⟨S_, .i32⟩
  | .hbm, ⟨39, _⟩ => ⟨S_, .i32⟩
  | .hbm, ⟨40, _⟩ => ⟨S_, .i32⟩
  | .hbm, ⟨41, _⟩ => ⟨S_, .i32⟩
  | .hbm, ⟨42, _⟩ => ⟨S_, .i32⟩
  | .hbm, ⟨43, _⟩ => ⟨S_, .i32⟩
  | .hbm, ⟨44, _⟩ => ⟨S_, .i32⟩
  | .hbm, ⟨45, _⟩ => ⟨S_, .i32⟩
  | .hbm, ⟨46, _⟩ => ⟨S_, .f32⟩
  | .hbm, ⟨47, _⟩ => ⟨S_, .i32⟩
  | .hbm, ⟨48, _⟩ => ⟨S_, .i32⟩
  | .hbm, ⟨49, _⟩ => ⟨S_, .i32⟩
  | .hbm, ⟨50, _⟩ => ⟨S_, .i32⟩
  | .hbm, ⟨51, _⟩ => ⟨S_, .i32⟩
  | .hbm, ⟨52, _⟩ => ⟨S_, .i32⟩
  | .hbm, ⟨53, _⟩ => ⟨S_, .i32⟩
  | .hbm, ⟨54, _⟩ => ⟨S_, .i32⟩
  | .hbm, ⟨55, _⟩ => ⟨S_, .i32⟩
  | .hbm, ⟨56, _⟩ => ⟨S_, .i32⟩
  | .hbm, ⟨57, _⟩ => ⟨S_, .i32⟩
  | .hbm, ⟨58, _⟩ => ⟨S_, .f32⟩
  | .hbm, ⟨59, _⟩ => ⟨S8192x8192, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S254, .i32⟩
  | .hbm, ⟨65, _⟩ => ⟨S_, .i32⟩
  | .hbm, ⟨66, _⟩ => ⟨S254, .i32⟩
  | .hbm, ⟨67, _⟩ => ⟨S254, .i32⟩
  | .hbm, ⟨68, _⟩ => ⟨S_, .i32⟩
  | .hbm, ⟨69, _⟩ => ⟨S254, .i32⟩
  | .hbm, ⟨70, _⟩ => ⟨S254, .i32⟩
  | .hbm, ⟨71, _⟩ => ⟨S254, .f32⟩
  | .hbm, ⟨72, _⟩ => ⟨S254, .f32⟩
  | .hbm, ⟨73, _⟩ => ⟨S254, .i1⟩
  | .hbm, ⟨74, _⟩ => ⟨S254, .i32⟩
  | .hbm, ⟨75, _⟩ => ⟨S_, .i32⟩
  | .hbm, ⟨76, _⟩ => ⟨S_, .i32⟩
  | .hbm, ⟨77, _⟩ => ⟨S_, .i32⟩
  | .hbm, ⟨78, _⟩ => ⟨S_, .i1⟩
  | .hbm, ⟨79, _⟩ => ⟨S_, .f32⟩
  | .hbm, ⟨80, _⟩ => ⟨S_, .i1⟩
  | .hbm, ⟨81, _⟩ => ⟨S_, .i1⟩
  | .hbm, ⟨82, _⟩ => ⟨S_, .i32⟩
  | .hbm, ⟨83, _⟩ => ⟨S_, .i32⟩
  | .hbm, ⟨84, _⟩ => ⟨S_, .i32⟩
  | .hbm, ⟨85, _⟩ => ⟨S_, .i32⟩
  | .hbm, ⟨86, _⟩ => ⟨S_, .i32⟩
  | .hbm, ⟨87, _⟩ => ⟨S_, .f32⟩
  | .hbm, ⟨88, _⟩ => ⟨S_, .i1⟩
  | .hbm, ⟨89, _⟩ => ⟨S_, .i32⟩
  | .hbm, ⟨90, _⟩ => ⟨S_, .i32⟩
  | .hbm, ⟨91, _⟩ => ⟨S_, .i32⟩
  | .hbm, ⟨92, _⟩ => ⟨S_, .i32⟩
  | .hbm, ⟨93, _⟩ => ⟨S_, .i32⟩
  | .hbm, ⟨94, _⟩ => ⟨S_, .i32⟩
  | .hbm, ⟨95, _⟩ => ⟨S_, .i32⟩
  | .hbm, ⟨96, _⟩ => ⟨S_, .i32⟩
  | .hbm, ⟨97, _⟩ => ⟨S_, .i32⟩
  | .hbm, ⟨98, _⟩ => ⟨S_, .i32⟩
  | .hbm, ⟨99, _⟩ => ⟨S_, .i32⟩
  | .hbm, ⟨100, _⟩ => ⟨S_, .i32⟩
  | .hbm, ⟨101, _⟩ => ⟨S_, .i32⟩
  | .hbm, ⟨102, _⟩ => ⟨S_, .f32⟩
  | .hbm, ⟨103, _⟩ => ⟨S_, .i32⟩
  | .hbm, ⟨104, _⟩ => ⟨S_, .i32⟩
  | .hbm, ⟨105, _⟩ => ⟨S_, .i32⟩
  | .hbm, ⟨106, _⟩ => ⟨S_, .i32⟩
  | .hbm, ⟨107, _⟩ => ⟨S_, .i32⟩
  | .hbm, ⟨108, _⟩ => ⟨S_, .i32⟩
  | .hbm, ⟨109, _⟩ => ⟨S_, .i32⟩
  | .hbm, ⟨110, _⟩ => ⟨S_, .i32⟩
  | .hbm, ⟨111, _⟩ => ⟨S_, .i32⟩
  | .hbm, ⟨112, _⟩ => ⟨S_, .i32⟩
  | .hbm, ⟨113, _⟩ => ⟨S_, .i32⟩
  | .hbm, ⟨114, _⟩ => ⟨S_, .f32⟩
  | .hbm, ⟨115, _⟩ => ⟨S1x1, .f32⟩
  | .hbm, ⟨116, _⟩ => ⟨S1x1, .f32⟩
  | .hbm, ⟨117, _⟩ => ⟨S1x1, .f32⟩
  | .hbm, ⟨118, _⟩ => ⟨S1x1, .f32⟩
  | .hbm, ⟨119, _⟩ => ⟨S8x3072x8192, .bf16⟩
  | .hbm, ⟨120, _⟩ => ⟨S8x3072x8192, .fp8e5m2⟩
  | .hbm, ⟨121, _⟩ => ⟨S8192x8192, .fp8e4m3⟩
  | .local _ .vmem, ⟨0, _⟩ => ⟨S8x3072x8192, .bf16⟩
  | .local _ .vmem, ⟨1, _⟩ => ⟨S8192x8192, .f32⟩
  | .local _ .vmem, ⟨2, _⟩ => ⟨S8x3072x8192, .bf16⟩
  | .local _ .vmem, ⟨3, _⟩ => ⟨S8x3072x8192, .fp8e5m2⟩
  | .local _ .vmem, ⟨4, _⟩ => ⟨S8192x8192, .fp8e4m3⟩
  | .local _ .smem, ⟨0, _⟩ => ⟨S1x1, .f32⟩
  | .local _ .smem, ⟨1, _⟩ => ⟨S1x1, .f32⟩
  | .local _ .smem, ⟨2, _⟩ => ⟨S1x1, .f32⟩
  | .local _ .smem, ⟨3, _⟩ => ⟨S1x1, .f32⟩
  | _, _ => ⟨S8x3072x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_v5 : Ref sig .tc := ⟨.hbm, 10, rfl⟩
abbrev main_v6 : Ref sig .tc := ⟨.hbm, 11, rfl⟩
abbrev main_c_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_c_2 : Ref sig .tc := ⟨.hbm, 19, rfl⟩
abbrev main_v13 : Ref sig .tc := ⟨.hbm, 20, rfl⟩
abbrev main_c_3 : Ref sig .tc := ⟨.hbm, 21, rfl⟩
abbrev main_v14 : Ref sig .tc := ⟨.hbm, 22, rfl⟩
abbrev main_cst_4 : Ref sig .tc := ⟨.hbm, 23, rfl⟩
abbrev main_v15 : Ref sig .tc := ⟨.hbm, 24, rfl⟩
abbrev main_v16 : Ref sig .tc := ⟨.hbm, 25, rfl⟩
abbrev main_c_5 : Ref sig .tc := ⟨.hbm, 26, rfl⟩
abbrev main_v17 : Ref sig .tc := ⟨.hbm, 27, rfl⟩
abbrev main_c_6 : Ref sig .tc := ⟨.hbm, 28, rfl⟩
abbrev main_call0_v0 : Ref sig .tc := ⟨.hbm, 29, rfl⟩
abbrev main_v18 : Ref sig .tc := ⟨.hbm, 30, rfl⟩
abbrev main_cst_7 : Ref sig .tc := ⟨.hbm, 31, rfl⟩
abbrev main_v19 : Ref sig .tc := ⟨.hbm, 32, rfl⟩
abbrev main_c_8 : Ref sig .tc := ⟨.hbm, 33, rfl⟩
abbrev main_call1_v0 : Ref sig .tc := ⟨.hbm, 34, rfl⟩
abbrev main_v20 : Ref sig .tc := ⟨.hbm, 35, rfl⟩
abbrev main_c_9 : Ref sig .tc := ⟨.hbm, 36, rfl⟩
abbrev main_v21 : Ref sig .tc := ⟨.hbm, 37, rfl⟩
abbrev main_c_10 : Ref sig .tc := ⟨.hbm, 38, rfl⟩
abbrev main_c_11 : Ref sig .tc := ⟨.hbm, 39, rfl⟩
abbrev main_call2_v0 : Ref sig .tc := ⟨.hbm, 40, rfl⟩
abbrev main_call2_v1 : Ref sig .tc := ⟨.hbm, 41, rfl⟩
abbrev main_call2_v2 : Ref sig .tc := ⟨.hbm, 42, rfl⟩
abbrev main_v22 : Ref sig .tc := ⟨.hbm, 43, rfl⟩
abbrev main_c_12 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_c_13 : Ref sig .tc := ⟨.hbm, 48, rfl⟩
abbrev main_v26 : Ref sig .tc := ⟨.hbm, 49, rfl⟩
abbrev main_c_14 : Ref sig .tc := ⟨.hbm, 50, rfl⟩
abbrev main_c_15 : Ref sig .tc := ⟨.hbm, 51, rfl⟩
abbrev main_call3_v0 : Ref sig .tc := ⟨.hbm, 52, rfl⟩
abbrev main_call3_v1 : Ref sig .tc := ⟨.hbm, 53, rfl⟩
abbrev main_call3_v2 : Ref sig .tc := ⟨.hbm, 54, rfl⟩
abbrev main_v27 : Ref sig .tc := ⟨.hbm, 55, rfl⟩
abbrev main_c_16 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_cst_17 : Ref sig .tc := ⟨.hbm, 60, rfl⟩
abbrev main_v31 : Ref sig .tc := ⟨.hbm, 61, rfl⟩
abbrev main_cst_18 : Ref sig .tc := ⟨.hbm, 62, rfl⟩
abbrev main_v32 : Ref sig .tc := ⟨.hbm, 63, rfl⟩
abbrev main_v33 : Ref sig .tc := ⟨.hbm, 64, rfl⟩
abbrev main_c_19 : Ref sig .tc := ⟨.hbm, 65, rfl⟩
abbrev main_v34 : Ref sig .tc := ⟨.hbm, 66, rfl⟩
abbrev main_v35 : Ref sig .tc := ⟨.hbm, 67, rfl⟩
abbrev main_c_20 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_c_21 : Ref sig .tc := ⟨.hbm, 75, rfl⟩
abbrev main_v42 : Ref sig .tc := ⟨.hbm, 76, rfl⟩
abbrev main_c_22 : Ref sig .tc := ⟨.hbm, 77, rfl⟩
abbrev main_v43 : Ref sig .tc := ⟨.hbm, 78, rfl⟩
abbrev main_cst_23 : Ref sig .tc := ⟨.hbm, 79, rfl⟩
abbrev main_v44 : Ref sig .tc := ⟨.hbm, 80, rfl⟩
abbrev main_v45 : Ref sig .tc := ⟨.hbm, 81, rfl⟩
abbrev main_c_24 : Ref sig .tc := ⟨.hbm, 82, rfl⟩
abbrev main_v46 : Ref sig .tc := ⟨.hbm, 83, rfl⟩
abbrev main_c_25 : Ref sig .tc := ⟨.hbm, 84, rfl⟩
abbrev main_call4_v0 : Ref sig .tc := ⟨.hbm, 85, rfl⟩
abbrev main_v47 : Ref sig .tc := ⟨.hbm, 86, rfl⟩
abbrev main_cst_26 : Ref sig .tc := ⟨.hbm, 87, rfl⟩
abbrev main_v48 : Ref sig .tc := ⟨.hbm, 88, rfl⟩
abbrev main_c_27 : Ref sig .tc := ⟨.hbm, 89, rfl⟩
abbrev main_call5_v0 : Ref sig .tc := ⟨.hbm, 90, rfl⟩
abbrev main_v49 : Ref sig .tc := ⟨.hbm, 91, rfl⟩
abbrev main_c_28 : Ref sig .tc := ⟨.hbm, 92, rfl⟩
abbrev main_v50 : Ref sig .tc := ⟨.hbm, 93, rfl⟩
abbrev main_c_29 : Ref sig .tc := ⟨.hbm, 94, rfl⟩
abbrev main_c_30 : Ref sig .tc := ⟨.hbm, 95, rfl⟩
abbrev main_call6_v0 : Ref sig .tc := ⟨.hbm, 96, rfl⟩
abbrev main_call6_v1 : Ref sig .tc := ⟨.hbm, 97, rfl⟩
abbrev main_call6_v2 : Ref sig .tc := ⟨.hbm, 98, rfl⟩
abbrev main_v51 : Ref sig .tc := ⟨.hbm, 99, rfl⟩
abbrev main_c_31 : Ref sig .tc := ⟨.hbm, 100, rfl⟩
abbrev main_v52 : Ref sig .tc := ⟨.hbm, 101, rfl⟩
abbrev main_v53 : Ref sig .tc := ⟨.hbm, 102, rfl⟩
abbrev main_v54 : Ref sig .tc := ⟨.hbm, 103, rfl⟩
abbrev main_c_32 : Ref sig .tc := ⟨.hbm, 104, rfl⟩
abbrev main_v55 : Ref sig .tc := ⟨.hbm, 105, rfl⟩
abbrev main_c_33 : Ref sig .tc := ⟨.hbm, 106, rfl⟩
abbrev main_c_34 : Ref sig .tc := ⟨.hbm, 107, rfl⟩
abbrev main_call7_v0 : Ref sig .tc := ⟨.hbm, 108, rfl⟩
abbrev main_call7_v1 : Ref sig .tc := ⟨.hbm, 109, rfl⟩
abbrev main_call7_v2 : Ref sig .tc := ⟨.hbm, 110, rfl⟩
abbrev main_v56 : Ref sig .tc := ⟨.hbm, 111, rfl⟩
abbrev main_c_35 : Ref sig .tc := ⟨.hbm, 112, rfl⟩
abbrev main_v57 : Ref sig .tc := ⟨.hbm, 113, rfl⟩
abbrev main_v58 : Ref sig .tc := ⟨.hbm, 114, rfl⟩
abbrev main_v59 : Ref sig .tc := ⟨.hbm, 115, rfl⟩
abbrev main_v60 : Ref sig .tc := ⟨.hbm, 116, rfl⟩
abbrev main_v61 : Ref sig .tc := ⟨.hbm, 117, rfl⟩
abbrev main_v62 : Ref sig .tc := ⟨.hbm, 118, rfl⟩
abbrev main_v63_0 : Ref sig .tc := ⟨.hbm, 119, rfl⟩
abbrev main_v63_1 : Ref sig .tc := ⟨.hbm, 120, rfl⟩
abbrev main_v63_2 : Ref sig .tc := ⟨.hbm, 121, rfl⟩
abbrev cc0_stg4_0 : Ref sig .tc := ⟨.vmem, 0, rfl⟩
abbrev cc0_stg5_0 : Ref sig .tc := ⟨.vmem, 1, rfl⟩
abbrev cc0_stg6_0 : Ref sig .tc := ⟨.vmem, 2, rfl⟩
abbrev cc0_stg7_0 : Ref sig .tc := ⟨.vmem, 3, rfl⟩
abbrev cc0_stg8_0 : Ref sig .tc := ⟨.vmem, 4, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_stg3_0 : Ref sig .tc := ⟨.smem, 3, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .smem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x3072x8192 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8192x8192 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x3072x8192 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8x3072x8192 .fp8e5m2 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S8192x8192 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Proof.P.Common.lean ====
/-
  What the three regions' proofs share: the resource algebra, the zero offsets and the one index of a one-word table.
-/
module

public import proofs.«01_k».proof.Proof.Gen.Kernel.Launch
public import proofs.«01_k».proof.Proof.Gen.Kernel.Skeleton
public import proofs.«01_k».proof.Proof.Gen.Kernel.Points
public import proofs.«01_k».proof.Proof.Gen.Kernel.Regions
public import Idealize.ShloMosaic.Lib.Pipeline.FrameBody
public import Idealize.ShloMosaic.Lib.Pipeline.RegionArraysS
public import Idealize.ShloMosaic.Lib.Pipeline.TableIdle
public import Idealize.ShloMosaic.Lib.Pipeline.Value
public import Idealize.ShloMosaic.Lib.WritesUnit
public import Idealize.ShloMosaic.Lib.VecWindow
public import Idealize.ShloMosaic.Lib.Ring
public import Idealize.ShloMosaic.Lib.Tactic
public import Idealize.ShloMosaic.Lib.WordCmp

@[expose] public section

noncomputable section

namespace Cert.Kernel.Common

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The certificate's resource algebra: the pipeline library's beside one for counters, of which none is used. -/
abbrev UU : Type := UR sig nD τ × Counters

/-- No core owes another anything: every TensorCore's semaphore has the one level `0`, no other core's has any. -/
abbrev L : GSem nD τ sig → Finset Unit := fun g => if g.1.2 = .tc then {()} else ∅
abbrev lv : GSem nD τ sig → Unit → ℕ := fun _ _ => 0
abbrev 𝒱₀ : Variants := Variants.none

theorem hz : (![0, 0] : Fin 2 → Nat) = fun _ => 0 := funext fun a => by fin_cases a <;> rfl

/-- The one index of a one-word table. -/
abbrev o11 : S1x1.Idx := fun a => ⟨0, by fin_cases a <;> decide⟩

/-- A one-word table has no other index. -/
theorem eq_o11 (i : S1x1.Idx) : i = o11 := by
  funext a; apply Fin.ext
  have h := (i a).isLt
  have e : S1x1.size a = 1 := by fin_cases a <;> rfl
  show (i a).val = 0
  have h' : (i a).val < 1 := h.trans_eq e
  omega

/-- Proof data for a pipeline that is not the region's: anything. -/
def junkDat {cfg : Cfg sig Λ₀} (c : Dev nD) : Dat τ (Elt F) Unit ℕ UU ℕ cfg c where
  A _ := fun _ => Classical.arbitrary _
  after _ _ := fun _ => Classical.arbitrary _
  Φ _ := BI.emp
  q _ := fullShare
  owed _ := 0

end Cert.Kernel.Common

end
-- ==== Proof.P.Region0.lean ====
/-
  The first kernel of the program, `cc0_amax_scales`, at any float values: its body run once per case of its three
  conditions (the first point, a middle point, the last point), the two running maxima as functions of the point, and
  the pipeline's proof data over an arbitrary valuation of the arrays at the region's entry. The two scratch buffers
  hold the running maxima; the last point reduces them and writes the four scales.
-/
module

public import proofs.«01_k».proof.Proof.P.Common

@[expose] public section

set_option maxRecDepth 16384

noncomputable section

namespace Cert.Kernel.Region0

open Cert.Kernel Cert.Kernel.Gen Cert.Kernel.Common
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The conditions and the words the last point stores -/

/-- The first `scf.if`'s condition (the point is the first), -/
abbrev cond1 (i : grid0.Coords) : Prop := Scalar.cmpi .ne (Scalar.extui (Scalar.cmpi .eq (BitVec.ofNat 32 (i 0).val) 0#32)) 0#32 = 1#1
/-- the second's (it is not the first), -/
abbrev cond2 (i : grid0.Coords) : Prop := Scalar.cmpi .ne (Scalar.extui (Scalar.cmpi .sgt (BitVec.ofNat 32 (i 0).val) 0#32)) 0#32 = 1#1
/-- and the third's (it is the last). -/
abbrev cond3 (i : grid0.Coords) : Prop := k0_cond3 i = 1#1

/-- The two scales of the gradient, from its running maxima, -/
def dyScale (A : Vec F S16x8192 .bf16) : F .f32 := k0_pay19 (k0_pay12 (F := F) (k0_pay9 A) (k0_pay10 A) 0#32)
def dyInv (A : Vec F S16x8192 .bf16) : F .f32 := k0_pay20 (k0_pay13 (F := F) (k0_pay9 A) (k0_pay10 A) 0#32)
/-- and of the weights, from theirs. -/
def wScale (B : Vec F S8x8192 .f32) : F .f32 :=
  k0_pay21 (k0_pay8 B) (k0_pay14 (k0_pay8 B)) (k0_pay15 (k0_pay8 B)) (k0_pay16 (k0_pay8 B)) (k0_pay17 (F := F))
def wInv (B : Vec F S8x8192 .f32) : F .f32 :=
  k0_pay22 (k0_pay8 B) (k0_pay14 (k0_pay8 B)) (k0_pay15 (k0_pay8 B)) (k0_pay16 (k0_pay8 B)) (k0_pay17 (F := F))

/-! ## The body, case by case -/

section Body

variable (c : Dev nD) (i : grid0.Coords)
  (arg1 : Memref sig .tc .vmem S384x8192 .bf16) (harg1 : arg1.IsWhole) (arg2 : Memref sig .tc .vmem S128x8192 .f32) (harg2 : arg2.IsWhole)
  (arg3 : Memref sig .tc .smem S1x1 .f32) (harg3 : arg3.IsWhole) (arg4 : Memref sig .tc .smem S1x1 .f32) (harg4 : arg4.IsWhole)
  (arg5 : Memref sig .tc .smem S1x1 .f32) (harg5 : arg5.IsWhole) (arg6 : Memref sig .tc .smem S1x1 .f32) (harg6 : arg6.IsWhole)
  (arg7 : Memref sig .tc .vmem S16x8192 .bf16) (harg7 : arg7.IsWhole) (arg8 : Memref sig .tc .vmem S8x8192 .f32) (harg8 : arg8.IsWhole)
  (x0 : Vec F S384x8192 .bf16) (x1 : Vec F S128x8192 .f32)

set_option maxHeartbeats 1000000 in
/-- The first point starts the two running maxima from its blocks. -/
theorem bodyA (h1 : cond1 i) (h2 : ¬ cond2 i) (h3 : ¬ cond3 i) : ∀ (E : Set ℕ) (K : PUnit → sProp 𝕄),
      iprop(owns (c : Thread nD τ) arg1 fullShare x0 ∗ owns (c : Thread nD τ) arg2 fullShare x1
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1
            ∗ owns (c : Thread nD τ) arg7 fullShare (k0_pay3 x0) ∗ owns (c : Thread nD τ) arg8 fullShare (k0_pay4 x1)) -∗ K ⟨⟩))
        ⊢ wp frame (wpE (defs₀ (F := F)) Variants.none c none) E
          (cc0_amax_scales i arg1 harg1 arg2 harg2 arg3 harg3 arg4 harg4 arg5 harg5 arg6 harg6 arg7 harg7 arg8 harg8) K := by
  intro E K
  simp only [cc0_amax_scales_eq_skeleton]; unfold cc0_amax_scales_skel
  unfold owns
  iintro ⟨⟨%f0, %hf0, H0⟩, ⟨%f1, %hf1, H1⟩, ⟨%d7, %f7, -, H7⟩, ⟨%d8, %f8, -, H8⟩, Hk⟩
  obtain rfl := harg1.eq_unread hf0; obtain rfl := harg2.eq_unread hf1
  sl_exec (disch := first | sl_exact h1 | sl_exact h2 | sl_exact h3)
  sl_step
  iapply Hk
  isplitl [H0]
  · iexists _; isplitr; · ipureintro; exact harg1.read_unread _
    iexact H0
  isplitl [H1]
  · iexists _; isplitr; · ipureintro; exact harg2.read_unread _
    iexact H1
  isplitl [H7]
  · iexists _; isplitr; swap; · iexact H7
    ipureintro
    sl_unfold_words
    rw [View.read_writes_full]
    simp only [View.readAt_eq_ld, harg1.read_unread, View.ld_unit_zero (S := S384x8192) hz]
  iexists _; isplitr; swap; · iexact H8
  ipureintro
  sl_unfold_words
  rw [View.read_writes_full]
  simp only [View.readAt_eq_ld, harg2.read_unread, View.ld_unit_zero (S := S128x8192) hz]

set_option maxHeartbeats 1000000 in
/-- A middle point takes its blocks into the two running maxima. -/
theorem bodyB (h1 : ¬ cond1 i) (h2 : cond2 i) (h3 : ¬ cond3 i) (X : Vec F S16x8192 .bf16) (Y : Vec F S8x8192 .f32) :
      ∀ (E : Set ℕ) (K : PUnit → sProp 𝕄),
      iprop(owns (c : Thread nD τ) arg1 fullShare x0 ∗ owns (c : Thread nD τ) arg2 fullShare x1
        ∗ owns (c : Thread nD τ) arg7 fullShare X ∗ owns (c : Thread nD τ) arg8 fullShare Y
        ∗ (iprop(owns (c : Thread nD τ) arg1 fullShare x0 ∗ owns (c : Thread nD τ) arg2 fullShare x1
            ∗ owns (c : Thread nD τ) arg7 fullShare (k0_pay5 x0 X) ∗ owns (c : Thread nD τ) arg8 fullShare (k0_pay6 x1 Y)) -∗ K ⟨⟩))
        ⊢ wp frame (wpE (defs₀ (F := F)) Variants.none c none) E
          (cc0_amax_scales i arg1 harg1 arg2 harg2 arg3 harg3 arg4 harg4 arg5 harg5 arg6 harg6 arg7 harg7 arg8 harg8) K := by
  intro E K
  simp only [cc0_amax_scales_eq_skeleton]; unfold cc0_amax_scales_skel
  unfold owns
  iintro ⟨⟨%f0, %hf0, H0⟩, ⟨%f1, %hf1, H1⟩, ⟨%f7, %hf7, H7⟩, ⟨%f8, %hf8, H8⟩, Hk⟩
  obtain rfl := harg1.eq_unread hf0; obtain rfl := harg2.eq_unread hf1
  obtain rfl := harg7.eq_unread hf7; obtain rfl := harg8.eq_unread hf8
  sl_exec (disch := first | sl_exact h1 | sl_exact h2 | sl_exact h3)
  sl_step
  iapply Hk
  isplitl [H0]
  · iexists _; isplitr; · ipureintro; exact harg1.read_unread _
    iexact H0
  isplitl [H1]
  · iexists _; isplitr; · ipureintro; exact harg2.read_unread _
    iexact H1
  isplitl [H7]
  · iexists _; isplitr; swap; · iexact H7
    ipureintro
    sl_unfold_words
    rw [View.read_writes_full]
    simp only [View.readAt_eq_ld, harg1.read_unread, harg7.read_unread, View.ld_unit_zero (S := S384x8192) hz, View.ld_unit_zero (S := S16x8192) hz]
  iexists _; isplitr; swap; · iexact H8
  ipureintro
  sl_unfold_words
  rw [View.read_writes_full]
  simp only [View.readAt_eq_ld, harg2.read_unread, harg8.read_unread, View.ld_unit_zero (S := S128x8192) hz, View.ld_unit_zero (S := S8x8192) hz]

set_option maxHeartbeats 2000000 in
/-- The last point takes its blocks in too, and stores the four scales of the two maxima. -/
theorem bodyC (h1 : ¬ cond1 i) (h2 : cond2 i) (h3 : cond3 i) (X : Vec F S16x8192 .bf16) (Y : Vec F S8x8192 .f32) :
      ∀ (E : Set ℕ) (K : PUnit → sProp 𝕄),
      iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (∃ d, owns (c : Thread nD τ) arg5 fullShare d) ∗ (∃ d, owns (c : Thread nD τ) arg6 fullShare d)
        ∗ owns (c : Thread nD τ) arg7 fullShare X ∗ owns (c : Thread nD τ) arg8 fullShare Y
        ∗ (iprop(owns (c : Thread nD τ) arg1 fullShare x0 ∗ owns (c : Thread nD τ) arg2 fullShare x1
            ∗ owns (c : Thread nD τ) arg3 fullShare (fun _ => dyScale (k0_pay5 x0 X)) ∗ owns (c : Thread nD τ) arg4 fullShare (fun _ => dyInv (k0_pay5 x0 X))
            ∗ owns (c : Thread nD τ) arg5 fullShare (fun _ => wScale (k0_pay6 x1 Y)) ∗ owns (c : Thread nD τ) arg6 fullShare (fun _ => wInv (k0_pay6 x1 Y))
            ∗ owns (c : Thread nD τ) arg7 fullShare (k0_pay5 x0 X) ∗ owns (c : Thread nD τ) arg8 fullShare (k0_pay6 x1 Y)) -∗ K ⟨⟩))
        ⊢ wp frame (wpE (defs₀ (F := F)) Variants.none c none) E
          (cc0_amax_scales i arg1 harg1 arg2 harg2 arg3 harg3 arg4 harg4 arg5 harg5 arg6 harg6 arg7 harg7 arg8 harg8) K := by
  intro E K
  simp only [cc0_amax_scales_eq_skeleton]; unfold cc0_amax_scales_skel
  simp only [k0_part1_eq_skeleton, k0_part2_eq_skeleton, k0_part3_eq_skeleton]
  unfold k0_part1_skel k0_part2_skel k0_part3_skel
  unfold owns
  iintro ⟨⟨%f0, %hf0, H0⟩, ⟨%f1, %hf1, H1⟩, ⟨%d3, %f3, -, H3⟩, ⟨%d4, %f4, -, H4⟩, ⟨%d5, %f5, -, H5⟩, ⟨%d6, %f6, -, H6⟩, ⟨%f7, %hf7, H7⟩, ⟨%f8, %hf8, H8⟩, Hk⟩
  obtain rfl := harg1.eq_unread hf0; obtain rfl := harg2.eq_unread hf1
  obtain rfl := harg7.eq_unread hf7; obtain rfl := harg8.eq_unread hf8
  sl_exec (disch := first | sl_exact h1 | sl_exact h2 | sl_exact h3)
  sl_step
  have e7 : arg7.view.readCov (Val := Elt F) [⟨Rect.unit ![0, 0] ![16, 8192] inb_S16x8192_S16x8192_0_0, k0_pay5 x0 X⟩]
      (Rect.unit ![0, 0] ![16, 8192] inb_S16x8192_S16x8192_0_0).toLoadRect = k0_pay5 x0 X := View.readCov_unit_zero (S := S16x8192) _ hz _ _
  have e8 : arg8.view.readCov (Val := Elt F) [⟨Rect.unit ![0, 0] ![8, 8192] inb_S8x8192_S8x8192_0_0, k0_pay6 x1 Y⟩]
      (Rect.unit ![0, 0] ![8, 8192] inb_S8x8192_S8x8192_0_0).toLoadRect = k0_pay6 x1 Y := View.readCov_unit_zero (S := S8x8192) _ hz _ _
  iapply Hk
  isplitl [H0]
  · iexists _; isplitr; · ipureintro; exact harg1.read_unread _
    iexact H0
  isplitl [H1]
  · iexists _; isplitr; · ipureintro; exact harg2.read_unread _
    iexact H1
  isplitl [H3]
  · iexists _; isplitr; swap; · iexact H3
    ipureintro
    sl_unfold_words
    rw [View.read_writes_full]
    simp only [View.readAt_eq_ld, View.ld_unit_zero (S := S384x8192) hz, View.ld_unit_zero (S := S16x8192) hz, View.ld_unit_zero (S := S128x8192) hz, View.ld_unit_zero (S := S8x8192) hz, View.read_writes_full, harg1.read_unread, harg2.read_unread, harg7.read_unread, harg8.read_unread]
    rw [e7]; rfl
  isplitl [H4]
  · iexists _; isplitr; swap; · iexact H4
    ipureintro
    sl_unfold_words
    rw [View.read_writes_full]
    simp only [View.readAt_eq_ld, View.ld_unit_zero (S := S384x8192) hz, View.ld_unit_zero (S := S16x8192) hz, View.ld_unit_zero (S := S128x8192) hz, View.ld_unit_zero (S := S8x8192) hz, View.read_writes_full, harg1.read_unread, harg2.read_unread, harg7.read_unread, harg8.read_unread]
    rw [e7]; rfl
  isplitl [H5]
  · iexists _; isplitr; swap; · iexact H5
    ipureintro
    sl_unfold_words
    rw [View.read_writes_full]
    simp only [View.readAt_eq_ld, View.ld_unit_zero (S := S384x8192) hz, View.ld_unit_zero (S := S16x8192) hz, View.ld_unit_zero (S := S128x8192) hz, View.ld_unit_zero (S := S8x8192) hz, View.read_writes_full, harg1.read_unread, harg2.read_unread, harg7.read_unread, harg8.read_unread]
    rw [e8]; rfl
  isplitl [H6]
  · iexists _; isplitr; swap; · iexact H6
    ipureintro
    sl_unfold_words
    rw [View.read_writes_full]
    simp only [View.readAt_eq_ld, View.ld_unit_zero (S := S384x8192) hz, View.ld_unit_zero (S := S16x8192) hz, View.ld_unit_zero (S := S128x8192) hz, View.ld_unit_zero (S := S8x8192) hz, View.read_writes_full, harg1.read_unread, harg2.read_unread, harg7.read_unread, harg8.read_unread]
    rw [e8]; rfl
  isplitl [H7]
  · iexists _; isplitr; swap; · iexact H7
    ipureintro
    sl_unfold_words
    rw [View.read_writes_full]
    simp only [View.readAt_eq_ld, harg1.read_unread, harg7.read_unread, View.ld_unit_zero (S := S384x8192) hz, View.ld_unit_zero (S := S16x8192) hz]
  iexists _; isplitr; swap; · iexact H8
  ipureintro
  sl_unfold_words
  rw [View.read_writes_full]
  simp only [View.readAt_eq_ld, harg2.read_unread, harg8.read_unread, View.ld_unit_zero (S := S128x8192) hz, View.ld_unit_zero (S := S8x8192) hz]

end Body

/-! ## The conditions in closed form -/

theorem hcond1 : ∀ t : Fin cfg0.N, cond1 (grid0.coords t) ↔ t.val % 64 = 0 :=
  (fun t => by
    have ht : t.val < 64 := Nat.lt_of_lt_of_eq t.isLt N_0
    have e0 : (grid0.coords t 0).val = t.val / 1 % 64 := Pipeline.Grid.coords_val t 0 (by decide) rfl
    simp only [cond1, e0]
    word_cmp
   : ∀ t : Fin grid0.N, cond1 (grid0.coords t) ↔ t.val % 64 = 0)

theorem hcond2 : ∀ t : Fin cfg0.N, cond2 (grid0.coords t) ↔ 1 ≤ t.val :=
  (by decide +kernel : ∀ t : Fin grid0.N, cond2 (grid0.coords t) ↔ 1 ≤ t.val)

theorem hcond3 : ∀ t : Fin cfg0.N, cond3 (grid0.coords t) ↔ t.val % 64 = 63 :=
  (fun t => by
    have ht : t.val < 64 := Nat.lt_of_lt_of_eq t.isLt N_0
    have e0 : (grid0.coords t 0).val = t.val / 1 % 64 := Pipeline.Grid.coords_val t 0 (by decide) rfl
    simp only [cond3, k0_cond3, e0]
    word_cmp
   : ∀ t : Fin grid0.N, cond3 (grid0.coords t) ↔ t.val % 64 = 63)

/-- Off the last point the four scales' windows are idle, -/
theorem idle_out (w : Fin cfg0.W) (hw : 2 ≤ w.val) (t : Fin cfg0.N) (h : ¬ cond3 (grid0.coords t)) : cfg0.idle w (cfg0.grid.coords t) = true := by
  have h' : (!(k0_cond3 (grid0.coords t) == 1#1)) = true := by simpa using h
  fin_cases w
  · exact absurd hw (by decide)
  · exact absurd hw (by decide)
  all_goals exact h'
/-- and at the last point they are not. -/
theorem live_out (w : Fin cfg0.W) (t : Fin cfg0.N) (h : cond3 (grid0.coords t)) : cfg0.idle w (cfg0.grid.coords t) = false := by
  have h' : (!(k0_cond3 (grid0.coords t) == 1#1)) = false := by simpa using h
  fin_cases w
  · rfl
  · rfl
  all_goals exact h'
/-- Off the last point no scale is written back. -/
theorem no_flush (w : Fin cfg0.W) (hw : 2 ≤ w.val) (t : Fin cfg0.N) (h : ¬ t.val % 64 = 63) : (cfg0.win w).flush t = false := by
  fin_cases w
  · exact absurd hw (by decide)
  · exact absurd hw (by decide)
  · exact Bool.eq_false_iff.mpr fun e => h ((flush0_2 t).mp e)
  · exact Bool.eq_false_iff.mpr fun e => h ((flush0_3 t).mp e)
  · exact Bool.eq_false_iff.mpr fun e => h ((flush0_4 t).mp e)
  · exact Bool.eq_false_iff.mpr fun e => h ((flush0_5 t).mp e)

/-! ## The proof data, at an entry valuation -/

variable (V : (c : Dev nD) → (b : Ref sig .tc) → Buf (Elt F) ((c : Thread nD τ).loc b))

/-- Window `w`'s block at point `t`, read off the array at the entry valuation. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The gradient's running maxima after point `n`, -/
def accDy (c : Dev nD) : (n : ℕ) → n < cfg0.N → Vec F S16x8192 .bf16
  | 0, h => k0_pay3 (iblk V c 0 ⟨0, h⟩ : Vec F S384x8192 .bf16)
  | n + 1, h => k0_pay5 (iblk V c 0 ⟨n + 1, h⟩ : Vec F S384x8192 .bf16) (accDy c n (Nat.lt_of_succ_lt h))
/-- and the weights'. -/
def accW (c : Dev nD) : (n : ℕ) → n < cfg0.N → Vec F S8x8192 .f32
  | 0, h => k0_pay4 (iblk V c 1 ⟨0, h⟩ : Vec F S128x8192 .f32)
  | n + 1, h => k0_pay6 (iblk V c 1 ⟨n + 1, h⟩ : Vec F S128x8192 .f32) (accW c n (Nat.lt_of_succ_lt h))

theorem lt63 : 63 < cfg0.N := by rw [show cfg0.N = 64 from N_0]; decide
/-- The maxima after the last point. -/
abbrev lastDy (c : Dev nD) : Vec F S16x8192 .bf16 := accDy V c 63 lt63
abbrev lastW (c : Dev nD) : Vec F S8x8192 .f32 := accW V c 63 lt63

/-- What gives the two scratch buffers back to the scoped buffers no window stages. -/
abbrev back (c : Dev nD) : sProp 𝕄 :=
  iprop((∃ f : Buf (Elt F) ((c : Thread nD τ).loc cc0_scratch0), ((c : Thread nD τ).loc cc0_scratch0) ↦{fullShare} f)
    -∗ (∃ f : Buf (Elt F) ((c : Thread nD τ).loc cc0_scratch1), ((c : Thread nD τ).loc cc0_scratch1) ↦{fullShare} f)
    -∗ Pipeline.scopedRest (Ix := Unit) (Name := ℕ) (U := UU) (Lvl := ℕ) (Val := Elt F) spec0 c)

/-- The invariant before point `n`: the scratch buffers hold the running maxima after point `n - 1`, if there is one. -/
def Phi (c : Dev nD) (n : ℕ) : sProp 𝕄 :=
  iprop(∃ X Y, ⌜∀ k (h : k < cfg0.N), n = k + 1 → X = accDy V c k h ∧ Y = accW V c k h⌝
    ∗ owns (c : Thread nD τ) (Memref.whole cc0_scratch0) fullShare X ∗ owns (c : Thread nD τ) (Memref.whole cc0_scratch1) fullShare Y ∗ back c)

/-- The proof data: the arrays at `V`; after the body each input's buffer as fetched and, at the last point, each
    output's at its scale; the invariant `Phi`; nothing owed. -/
def dat (c : Dev nD) : Dat τ (Elt F) Unit ℕ UU ℕ cfg0 c where
  A w := V c (Pipeline.arrRef spec0 w)
  after w t := match w with
    | ⟨0, _⟩ => iblk V c 0 t
    | ⟨1, _⟩ => iblk V c 1 t
    | ⟨2, _⟩ => fun _ => dyScale (lastDy V c)
    | ⟨3, _⟩ => fun _ => dyInv (lastDy V c)
    | ⟨4, _⟩ => fun _ => wScale (lastW V c)
    | ⟨5, _⟩ => fun _ => wInv (lastW V c)
  Φ t := Phi V c t.val
  q _ := fullShare
  owed _ := 0

theorem A_eq (c : Dev nD) (w : Fin cfg0.W) : (dat V c).A w = V c (Pipeline.arrRef spec0 w) := by dsimp only [dat]
theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = fun _ => dyScale (lastDy V c) := by dsimp only [dat]
theorem after_3 (c : Dev nD) (t : Fin cfg0.N) : (dat V c).after 3 t = fun _ => dyInv (lastDy V c) := by dsimp only [dat]
theorem after_4 (c : Dev nD) (t : Fin cfg0.N) : (dat V c).after 4 t = fun _ => wScale (lastW V c) := by dsimp only [dat]
theorem after_5 (c : Dev nD) (t : Fin cfg0.N) : (dat V c).after 5 t = fun _ => wInv (lastW V c) := by dsimp only [dat]

/-- An input's staging buffer holds its block when the body runs, fetched at this point or at an earlier one. -/
theorem before_0 (c : Dev nD) (t : Fin cfg0.N) (d) : (dat V c).before 0 t d = iblk V c 0 t :=
  ((dat V c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dat V c).before 1 t d = iblk V c 1 t :=
  ((dat V c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)

/-- Window `w`'s staging memref at point `t`. -/
abbrev ms (w : Fin cfg0.W) (t : Fin cfg0.N) := (cfg0.win w).stage (cfg0.slots t w)

/-- What a live window is left at. -/
theorem leaves_live (c : Dev nD) (w : Fin cfg0.W) (t : Fin cfg0.N) (hi : cfg0.idle w (cfg0.grid.coords t) = false) :
    (dat V c).leavesExact w t = owns (c : Thread nD τ) (ms w t) fullShare ((dat V c).after w t) := by
  unfold Dat.leavesExact; rw [hi]

/-- The body at any point, in the three cases. -/
theorem sound_body (c : Dev nD) (t : Fin cfg0.N) :
    iprop((dat V c).Φ t.castSucc ∗ (dat V c).owesAt () t.castSucc
      ∗ (∃ d, owns (c : Thread nD τ) (ms 0 t) fullShare ((dat V c).before 0 t d))
      ∗ (∃ d, owns (c : Thread nD τ) (ms 1 t) fullShare ((dat V c).before 1 t d))
      ∗ (∃ d, owns (c : Thread nD τ) (ms 2 t) fullShare ((dat V c).before 2 t d))
      ∗ (∃ d, owns (c : Thread nD τ) (ms 3 t) fullShare ((dat V c).before 3 t d))
      ∗ (∃ d, owns (c : Thread nD τ) (ms 4 t) fullShare ((dat V c).before 4 t d))
      ∗ (∃ d, owns (c : Thread nD τ) (ms 5 t) fullShare ((dat V c).before 5 t d)))
    ⊢ wp frame (wpE (defs₀ (F := F)) Variants.none c none) Set.univ (bodyAt0 t) (fun _ => iprop((dat V c).Φ t.succ ∗ (dat V c).owesAt () t.succ
      ∗ (dat V c).leavesExact 0 t ∗ (dat V c).leavesExact 1 t ∗ (dat V c).leavesExact 2 t
      ∗ (dat V c).leavesExact 3 t ∗ (dat V c).leavesExact 4 t ∗ (dat V c).leavesExact 5 t)) := by
  have ht : t.val < 64 := Nat.lt_of_lt_of_eq t.isLt N_0
  unfold bodyAt0
  simp only [before_0, before_1]
  rw [leaves_live V c 0 t rfl, leaves_live V c 1 t rfl, after_0, after_1,
    show (dat V c).Φ t.succ = Phi V c (t.val + 1) from rfl, show (dat V c).Φ t.castSucc = Phi V c t.val from rfl,
    show (dat V c).owesAt () t.succ = (dat V c).owesAt () t.castSucc from rfl]
  by_cases h3 : cond3 (grid0.coords t)
  · have hl := (hcond3 t).mp h3
    have hv : t.val = 63 := by omega
    have h1 : ¬ cond1 (grid0.coords t) := fun h => by have := (hcond1 t).mp h; omega
    have h2 : cond2 (grid0.coords t) := (hcond2 t).mpr (by omega)
    rw [leaves_live V c 2 t (live_out 2 t h3), leaves_live V c 3 t (live_out 3 t h3), leaves_live V c 4 t (live_out 4 t h3), leaves_live V c 5 t (live_out 5 t h3),
      after_2, after_3, after_4, after_5]
    obtain rfl : t = ⟨63, lt63⟩ := Fin.ext hv
    unfold Phi
    iintro ⟨⟨%X, %Y, %hXY, HS0, HS1, Hb⟩, Ho, ⟨%d0, H0⟩, ⟨%d1, H1⟩, ⟨%d2, H2⟩, ⟨%d3, H3⟩, ⟨%d4, H4⟩, ⟨%d5, H5⟩⟩
    obtain ⟨rfl, rfl⟩ := hXY 62 (Nat.lt_of_succ_lt lt63) rfl
    iapply ((bodyC c (grid0.coords ⟨63, lt63⟩) _ _ _ _ _ _ _ _ _ _ _ _ _ _ _ _ (iblk V c 0 ⟨63, lt63⟩) (iblk V c 1 ⟨63, lt63⟩) h1 h2 h3 (accDy V c 62 _) (accW V c 62 _)) Set.univ _)
    isplitl [H0]; · iexact H0
    isplitl [H1]; · iexact H1
    isplitl [H2]; · iexists _; iexact H2
    isplitl [H3]; · iexists _; iexact H3
    isplitl [H4]; · iexists _; iexact H4
    isplitl [H5]; · iexists _; iexact H5
    isplitl [HS0]; · iexact HS0
    isplitl [HS1]; · iexact HS1
    iintro ⟨H0, H1, H2, H3, H4, H5, HS0, HS1⟩
    isplitl [HS0 HS1 Hb]
    · iexists _, _
      isplitr; swap
      · isplitl [HS0]; · iexact HS0
        isplitl [HS1]; · iexact HS1
        iexact Hb
      ipureintro
      intro k hk e
      obtain rfl : k = 63 := by dsimp only at e; omega
      exact ⟨rfl, rfl⟩
    isplitl [Ho]; · iexact Ho
    isplitl [H0]; · iexact H0
    isplitl [H1]; · iexact H1
    isplitl [H2]; · iexact H2
    isplitl [H3]; · iexact H3
    isplitl [H4]; · iexact H4
    iexact H5
  · have hl : ¬ t.val % 64 = 63 := fun h => h3 ((hcond3 t).mpr h)
    rw [(dat V c).leavesExact_idle 2 t (idle_out 2 (by decide) t h3) (no_flush 2 (by decide) t hl),
      (dat V c).leavesExact_idle 3 t (idle_out 3 (by decide) t h3) (no_flush 3 (by decide) t hl),
      (dat V c).leavesExact_idle 4 t (idle_out 4 (by decide) t h3) (no_flush 4 (by decide) t hl),
      (dat V c).leavesExact_idle 5 t (idle_out 5 (by decide) t h3) (no_flush 5 (by decide) t hl)]
    unfold Phi
    iintro ⟨⟨%X, %Y, %hXY, HS0, HS1, Hb⟩, Ho, ⟨%d0, H0⟩, ⟨%d1, H1⟩, H2, H3, H4, H5⟩
    obtain ⟨n, hn⟩ := t
    cases n with
    | zero =>
      have h1 : cond1 (grid0.coords ⟨0, hn⟩) := (hcond1 _).mpr rfl
      have h2 : ¬ cond2 (grid0.coords ⟨0, hn⟩) := fun h => by have := (hcond2 _).mp h; dsimp only at this; omega
      iapply ((bodyA c (grid0.coords ⟨0, hn⟩) _ _ _ _ _ _ _ _ _ _ _ _ _ _ _ _ (iblk V c 0 ⟨0, hn⟩) (iblk V c 1 ⟨0, hn⟩) h1 h2 h3) Set.univ _)
      isplitl [H0]; · iexact H0
      isplitl [H1]; · iexact H1
      isplitl [HS0]; · iexists _; iexact HS0
      isplitl [HS1]; · iexists _; iexact HS1
      iintro ⟨H0, H1, HS0, HS1⟩
      isplitl [HS0 HS1 Hb]
      · iexists _, _
        isplitr; swap
        · isplitl [HS0]; · iexact HS0
          isplitl [HS1]; · iexact HS1
          iexact Hb
        ipureintro
        intro k hk e
        obtain rfl : k = 0 := by dsimp only at e; omega
        exact ⟨rfl, rfl⟩
      isplitl [Ho]; · iexact Ho
      isplitl [H0]; · iexact H0
      isplitl [H1]; · iexact H1
      isplitl [H2]; · iexact H2
      isplitl [H3]; · iexact H3
      isplitl [H4]; · iexact H4
      iexact H5
    | succ n =>
      have h1 : ¬ cond1 (grid0.coords ⟨n + 1, hn⟩) := fun h => by have := (hcond1 _).mp h; dsimp only at this ht; omega
      have h2 : cond2 (grid0.coords ⟨n + 1, hn⟩) := (hcond2 _).mpr (by dsimp only; omega)
      obtain ⟨rfl, rfl⟩ := hXY n (Nat.lt_of_succ_lt hn) rfl
      iapply ((bodyB c (grid0.coords ⟨n + 1, hn⟩) _ _ _ _ _ _ _ _ _ _ _ _ _ _ _ _ (iblk V c 0 ⟨n + 1, hn⟩) (iblk V c 1 ⟨n + 1, hn⟩) h1 h2 h3 (accDy V c n _) (accW V c n _)) Set.univ _)
      isplitl [H0]; · iexact H0
      isplitl [H1]; · iexact H1
      isplitl [HS0]; · iexact HS0
      isplitl [HS1]; · iexact HS1
      iintro ⟨H0, H1, HS0, HS1⟩
      isplitl [HS0 HS1 Hb]
      · iexists _, _
        isplitr; swap
        · isplitl [HS0]; · iexact HS0
          isplitl [HS1]; · iexact HS1
          iexact Hb
        ipureintro
        intro k hk e
        obtain rfl : k = n + 1 := by dsimp only at e; omega
        exact ⟨rfl, rfl⟩
      isplitl [Ho]; · iexact Ho
      isplitl [H0]; · iexact H0
      isplitl [H1]; · iexact H1
      isplitl [H2]; · iexact H2
      isplitl [H3]; · iexact H3
      isplitl [H4]; · iexact H4
      iexact H5

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The pipeline library's body obligation, at every point. -/
theorem body_obligation (c : Dev nD) : BodyObligation (dat V c) (defs₀ (F := F)) Variants.none () Set.univ := fun t => by
  rw [bigSep_W0, bigSep_W0, defs₀_row]
  exact triple_restated (sound_body V c t) rfl .rfl fun _ => .rfl

/-- The region's scoped buffers make the invariant before the first point, -/
theorem enter (c : Dev nD) : (Pipeline.scopedRest (Ix := Unit) (Name := ℕ) (U := UU) (Lvl := ℕ) (Val := Elt F) spec0 c : sProp 𝕄) ⊢ (dat V c).Φ 0 := by
  rw [show (dat V c).Φ 0 = Phi V c 0 from rfl]
  unfold Phi back
  rw [scopedRest0_eq]
  simp only [owns_whole_eq]
  iintro ⟨⟨%f0, H0⟩, ⟨%f1, H1⟩, Hr⟩
  iexists f0, f1
  isplitr
  · ipureintro; intro k h e; omega
  isplitl [H0]
  · iexists _; isplitr; swap; · iexact H0
    ipureintro; rfl
  isplitl [H1]
  · iexists _; isplitr; swap; · iexact H1
    ipureintro; rfl
  iintro H0 H1
  isplitl [H0]; · iexact H0
  isplitl [H1]; · iexact H1
  iexact Hr

/-- and the invariant after the last one gives them back. -/
theorem leave (c : Dev nD) : (dat V c).Φ (Fin.last cfg0.N) ⊢ (Pipeline.scopedRest (Ix := Unit) (Name := ℕ) (U := UU) (Lvl := ℕ) (Val := Elt F) spec0 c : sProp 𝕄) := by
  rw [show (dat V c).Φ (Fin.last cfg0.N) = Phi V c cfg0.N from rfl]
  unfold Phi back
  simp only [owns_whole_eq]
  iintro ⟨%X, %Y, -, ⟨%f0, -, H0⟩, ⟨%f1, -, H1⟩, Hb⟩
  iapply Hb $$ [H0] [H1]
  · iexists _; iexact H0
  · iexists _; iexact H1

end Cert.Kernel.Region0

end
-- ==== Proof.P.Region1.lean ====
/-
  The second kernel of the program, `cc1_quant_w`, at any float values: its body run once at a symbolic grid point, and
  the pipeline's proof data over an arbitrary valuation of the arrays at the region's entry. Point `t` of the 32 loads
  256 rows of the weights and the one word of the inverse scale, and stores the 256 rows of codes `k1_pay1`.
-/
module

public import proofs.«01_k».proof.Proof.P.Common

@[expose] public section

set_option maxRecDepth 16384

noncomputable section

namespace Cert.Kernel.Region1

open Cert.Kernel Cert.Kernel.Gen Cert.Kernel.Common
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

set_option maxHeartbeats 1000000 in
/-- The body: from the inverse scale's word and a block of weights it leaves the block's codes. -/
theorem body (c : Dev nD) (i : grid1.Coords) (arg1 : Memref sig .tc .smem S1x1 .f32) (harg1 : arg1.IsWhole)
    (arg2 : Memref sig .tc .vmem S256x8192 .f32) (harg2 : arg2.IsWhole)
    (arg3 : Memref sig .tc .vmem S256x8192 .fp8e4m3) (harg3 : arg3.IsWhole)
    (x0 : Vec F S1x1 .f32) (x1 : Vec F S256x8192 .f32) : ∀ (E : Set ℕ) (K : PUnit → sProp 𝕄),
      iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (k1_pay1 x1 (x0 o11))) -∗ K ⟨⟩))
        ⊢ wp frame (wpE (defs₀ (F := F)) Variants.none c none) E (cc1_quant_w i arg1 harg1 arg2 harg2 arg3 harg3) K := by
  intro E K
  simp only [cc1_quant_w_eq_skeleton]; unfold cc1_quant_w_skel
  unfold owns
  iintro ⟨⟨%f0, %hf0, H0⟩, ⟨%f1, %hf1, H1⟩, ⟨%d2, %f2, -, H2⟩, Hk⟩
  obtain rfl := harg1.eq_unread hf0; obtain rfl := harg2.eq_unread hf1
  sl_exec
  sl_step
  iapply Hk
  isplitl [H0]
  · iexists _; isplitr; · ipureintro; exact harg1.read_unread _
    iexact H0
  isplitl [H1]
  · iexists _; isplitr; · ipureintro; exact harg2.read_unread _
    iexact H1
  iexists _; isplitr; swap; · iexact H2
  ipureintro
  sl_unfold_words
  rw [View.read_writes_full]
  simp only [View.readAt_eq_ld, harg1.read_unread, harg2.read_unread, View.ld_unit_zero (S := S256x8192) hz]
  exact congrArg (k1_pay1 x1) (congrArg x0 (eq_o11 _))

/-! ## The proof data, at an entry valuation -/

variable (V : (c : Dev nD) → (b : Ref sig .tc) → Buf (Elt F) ((c : Thread nD τ).loc b))

/-- Window `w`'s block at point `t`, read off the array at the entry valuation. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The proof data: the arrays at `V`; after the body each input's buffer as fetched and the output's at the block's
    codes; the invariant is the other regions' scoped buffers, which the body does not touch; nothing owed. -/
def dat (c : Dev nD) : Dat τ (Elt F) Unit ℕ UU ℕ cfg1 c where
  A w := V c (Pipeline.arrRef spec1 w)
  after w t := match w with
    | ⟨0, _⟩ => iblk V c 0 t
    | ⟨1, _⟩ => iblk V c 1 t
    | ⟨2, _⟩ => k1_pay1 (iblk V c 1 t : Vec F S256x8192 .f32) ((iblk V c 0 t : Vec F S1x1 .f32) o11)
  Φ _ := Pipeline.scopedRest (Ix := Unit) (Name := ℕ) (U := UU) (Lvl := ℕ) (Val := Elt F) spec1 c
  q _ := fullShare
  owed _ := 0

theorem A_eq (c : Dev nD) (w : Fin cfg1.W) : (dat V c).A w = V c (Pipeline.arrRef spec1 w) := by dsimp only [dat]
theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t
    = k1_pay1 (iblk V c 1 t : Vec F S256x8192 .f32) ((iblk V c 0 t : Vec F S1x1 .f32) o11) := by dsimp only [dat]

/-- An input's staging buffer holds its block when the body runs, fetched at this point or at an earlier one. -/
theorem before_0 (c : Dev nD) (t : Fin cfg1.N) (d) : (dat V c).before 0 t d = iblk V c 0 t :=
  ((dat V c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg1.N) (d) : (dat V c).before 1 t d = iblk V c 1 t :=
  ((dat V c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)

/-- Window `w`'s staging memref at point `t`. -/
abbrev ms (w : Fin cfg1.W) (t : Fin cfg1.N) := (cfg1.win w).stage (cfg1.slots t w)

/-- The body at any point: the inputs' buffers hold their blocks, so the run applies and leaves the codes. -/
theorem sound_body (c : Dev nD) (t : Fin cfg1.N) :
    iprop((dat V c).Φ t.castSucc ∗ (dat V c).owesAt () t.castSucc
      ∗ (∃ d, owns (c : Thread nD τ) (ms 0 t) fullShare ((dat V c).before 0 t d))
      ∗ (∃ d, owns (c : Thread nD τ) (ms 1 t) fullShare ((dat V c).before 1 t d))
      ∗ (∃ d, owns (c : Thread nD τ) (ms 2 t) fullShare ((dat V c).before 2 t d)))
    ⊢ wp frame (wpE (defs₀ (F := F)) Variants.none c none) Set.univ (bodyAt1 t) (fun _ => iprop((dat V c).Φ t.succ ∗ (dat V c).owesAt () t.succ
      ∗ owns (c : Thread nD τ) (ms 0 t) fullShare ((dat V c).after 0 t)
      ∗ owns (c : Thread nD τ) (ms 1 t) fullShare ((dat V c).after 1 t)
      ∗ owns (c : Thread nD τ) (ms 2 t) fullShare ((dat V c).after 2 t))) := by
  unfold bodyAt1
  simp only [before_0, before_1]
  rw [show (dat V c).Φ t.succ = (dat V c).Φ t.castSucc from rfl,
    show (dat V c).owesAt () t.succ = (dat V c).owesAt () t.castSucc from rfl,
    after_0, after_1, after_2]
  iintro ⟨HΦ, Ho, ⟨%d0, H0⟩, ⟨%d1, H1⟩, ⟨%d2, H2⟩⟩
  iapply ((body c (grid1.coords t) _ _ _ _ _ _ (iblk V c 0 t) (iblk V c 1 t)) Set.univ _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body table's row at point `t`'s slots is the body as `bodyAt1` spells it. -/
theorem defs₀_row (t : Fin cfg1.N) :
    defs₀ (F := F) .tc cfg1.body (cfg1.bodyArgs t (cfg1.slots t)) = bodyAt1 t := by
  unfold defs₀; rw [Defs.onTc_tc]

/-- The pipeline library's body obligation, at every point. -/
theorem body_obligation (c : Dev nD) : BodyObligation (dat V c) (defs₀ (F := F)) Variants.none () Set.univ := fun t => by
  rw [bigSep_W1, bigSep_W1, defs₀_row]
  exact triple_restated (sound_body V c t) rfl .rfl fun _ => .rfl

end Cert.Kernel.Region1

end
-- ==== Proof.P.Region2.lean ====
/-
  The third kernel of the program, `cc2_dgrad_fp8`, at any float values: its body run once per case of its two
  conditions. The scratch buffer has two slots of 1024 rows of codes: a point of grid row `i < 24` stores the codes of
  one chunk of 128 rows of the gradient in slot `i % 2`, and a point of grid row `i > 0` multiplies the 1024 rows of
  slot `(i - 1) % 2`, stored during the grid row before, by a block of the weights' codes.
-/
module

public import proofs.«01_k».proof.Proof.P.Common
public import Idealize.ShloMosaic.Lib.ValueLayout

@[expose] public section

set_option maxRecDepth 16384

noncomputable section

namespace Cert.Kernel.Region2

open Cert.Kernel Cert.Kernel.Gen Cert.Kernel.Common
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ UU ℕ

/-- The point at row `a` and column `b` of the grid. -/
def pt (a : Fin 25) (b : Fin 8) : grid2.Coords := fun | 0 => a | 1 => b

/-- A chunk's codes go to slot `i % 2`, at its 128 rows; -/
theorem off1_eq (i : grid2.Coords) : k2_off1 i = ![(i 0).val % 2, (i 1).val * 128, 0] :=
  (by decide +kernel : ∀ (a : Fin 25) (b : Fin 8), k2_off1 (pt a b) = ![a.val % 2, b.val * 128, 0]) (i 0) (i 1)
/-- the product reads the other slot. -/
theorem off2_eq (i : grid2.Coords) : k2_off2 i = ![((i 0).val + 1) % 2, 0, 0] :=
  (by decide +kernel : ∀ a : Fin 25, k2_off2 (pt a 0) = ![(a.val + 1) % 2, 0, 0]) (i 0)
instance (i : grid2.Coords) : ClosedOff (k2_off1 i) := ⟨_, off1_eq i⟩
instance (i : grid2.Coords) : ClosedOff (k2_off2 i) := ⟨_, off2_eq i⟩

/-- The scratch buffer after a chunk's codes are stored in it, -/
def stored (i : grid2.Coords) (s0 : Vec F S1x1 .f32) (x3 : Vec F S128x8192 .bf16) (X : Vec F S2x1024x8192 .fp8e5m2) : Vec F S2x1024x8192 .fp8e5m2 :=
  VecWindow.put X (k2_off1 i) S1x128x8192.size (k2_pay2 (s0 o11) x3)
/-- and the block of the product with the 1024 rows of one of its slots. -/
def product (i : grid2.Coords) (h2 : k2_cond2 i = 1#1) (s1 s2 : Vec F S1x1 .f32) (x4 : Vec F S1024x8192 .fp8e4m3) (X : Vec F S2x1024x8192 .fp8e5m2) :
    FVec F S128x8x1024 .bf16 :=
  k2_pay3 (VecWindow.window X (k2_off2 i) S1x1024x8192.size (k2_off2_inb i h2)) x4 (s1 o11) (s2 o11)

/-! ## The body, case by case -/

section Body

variable (c : Dev nD) (i : grid2.Coords)
  (arg2 : Memref sig .tc .smem S1x1 .f32) (harg2 : arg2.IsWhole) (arg3 : Memref sig .tc .smem S1x1 .f32) (harg3 : arg3.IsWhole)
  (arg4 : Memref sig .tc .smem S1x1 .f32) (harg4 : arg4.IsWhole)
  (arg5 : Memref sig .tc .vmem S128x8192 .bf16) (harg5 : arg5.IsWhole) (arg6 : Memref sig .tc .vmem S1024x8192 .fp8e4m3) (harg6 : arg6.IsWhole)
  (arg7 : Memref sig .tc .vmem S128x8x1024 .bf16) (harg7 : arg7.IsWhole) (arg8 : Memref sig .tc .vmem S128x8192 .fp8e5m2) (harg8 : arg8.IsWhole)
  (arg9 : Memref sig .tc .vmem S2x1024x8192 .fp8e5m2) (harg9 : arg9.IsWhole)
  (s0 s1 s2 : Vec F S1x1 .f32) (x3 : Vec F S128x8192 .bf16) (x4 : Vec F S1024x8192 .fp8e4m3) (X : Vec F S2x1024x8192 .fp8e5m2)

/-- What the scratch buffer reads after the store. -/
theorem read_stored (h1 : k2_cond1 i = 1#1) :
    arg9.view.read (Elt F) (arg9.view.writes (Elt F) (harg9.unread X)
      [⟨Rect.unit (k2_off1 i) S1x128x8192.size (k2_off1_inb i h1),
        k2_pay2 (arg2.view.readAt (Elt F) (Rect.unit ![0, 0] S1x1.size inb_S1x1_S1x1_0_0).toLoadRect (harg2.unread s0) (Shape.Idx.first (by decide)))
          (arg5.view.readAt (Elt F) (Rect.unit ![0, 0] S128x8192.size inb_S128x8192_S128x8192_0_0).toLoadRect (harg5.unread x3))⟩]) = stored i s0 x3 X := by
  rw [View.read_writes_cons_put arg9.view _ (k2_off1_inb i h1) _ _ rfl, View.writes_nil, harg9.read_unread]
  unfold stored
  refine congrArg (fun w => VecWindow.put X (k2_off1 i) S1x128x8192.size w) (congr (congrArg k2_pay2 ?_) ?_)
  · rw [View.readAt_eq_ld, harg2.read_unread]; exact congrArg s0 (eq_o11 _)
  · rw [View.readAt_eq_ld, harg5.read_unread]; exact View.ld_unit_zero (S := S128x8192) hz _ _

/-- What a product's load of the scratch buffer reads. -/
theorem read_window (h2 : k2_cond2 i = 1#1) (f) (A : Vec F S2x1024x8192 .fp8e5m2) (hf : arg9.view.read (Elt F) f = A) :
    arg9.view.readAt (Elt F) (Rect.unit (s := S2x1024x8192) (k2_off2 i) S1x1024x8192.size (k2_off2_inb i h2)).toLoadRect f
      = VecWindow.window A (k2_off2 i) S1x1024x8192.size (k2_off2_inb i h2) := by
  subst hf
  exact View.readAt_unit arg9.view _ (k2_off2_inb i h2) rfl (k2_off2_inb i h2)

set_option maxHeartbeats 2000000 in
/-- A point of the first grid row stores one chunk's codes, in the result's block and in the scratch buffer. -/
theorem bodyA (h1 : k2_cond1 i = 1#1) (h2 : ¬ k2_cond2 i = 1#1) :
      ∀ (E : Set ℕ) (K : PUnit → sProp 𝕄),
      iprop(owns (c : Thread nD τ) arg2 fullShare s0 ∗ owns (c : Thread nD τ) arg5 fullShare x3 ∗ (∃ d, owns (c : Thread nD τ) arg8 fullShare d) ∗ owns (c : Thread nD τ) arg9 fullShare X
        ∗ (iprop(owns (c : Thread nD τ) arg2 fullShare s0 ∗ owns (c : Thread nD τ) arg5 fullShare x3 ∗ owns (c : Thread nD τ) arg8 fullShare (k2_pay1 (s0 o11) x3) ∗ owns (c : Thread nD τ) arg9 fullShare (stored i s0 x3 X)) -∗ K ⟨⟩))
        ⊢ wp frame (wpE (defs₀ (F := F)) Variants.none c none) E
          (cc2_dgrad_fp8 i arg2 harg2 arg3 harg3 arg4 harg4 arg5 harg5 arg6 harg6 arg7 harg7 arg8 harg8 arg9 harg9) K := by
  intro E K
  simp only [cc2_dgrad_fp8_eq_skeleton]; unfold cc2_dgrad_fp8_skel
  unfold owns
  iintro ⟨⟨%f2, %hf2, H2⟩, ⟨%f5, %hf5, H5⟩, ⟨%d8, %f8, -, H8⟩, ⟨%f9, %hf9, H9⟩, Hk⟩
  obtain rfl := harg2.eq_unread hf2
  obtain rfl := harg5.eq_unread hf5
  obtain rfl := harg9.eq_unread hf9
  sl_exec (disch := first | sl_exact h1 | sl_exact h2)
  sl_step
  iapply Hk
  isplitl [H2]
  · iexists _; isplitr; · ipureintro; exact harg2.read_unread _
    iexact H2
  isplitl [H5]
  · iexists _; isplitr; · ipureintro; exact harg5.read_unread _
    iexact H5
  isplitl [H8]
  · iexists _; isplitr; swap; · iexact H8
    ipureintro
    sl_unfold_words
    rw [View.read_writes_full]
    simp only [View.readAt_eq_ld, harg2.read_unread, harg3.read_unread, harg4.read_unread, harg5.read_unread, harg6.read_unread, harg9.read_unread, View.ld_unit_zero (S := S128x8192) hz, View.ld_unit_zero (S := S1024x8192) hz]
    exact congrArg (k2_pay1 · x3) (congrArg s0 (eq_o11 _))
  iexists _; isplitr; swap; · iexact H9
  ipureintro
  sl_unfold_words
  exact read_stored i arg2 harg2 arg5 harg5 arg9 harg9 s0 x3 X h1

set_option maxHeartbeats 2000000 in
/-- A point of a middle grid row stores one chunk's codes and multiplies the 1024 rows stored during the grid row before. -/
theorem bodyB (h1 : k2_cond1 i = 1#1) (h2 : k2_cond2 i = 1#1) :
      ∀ (E : Set ℕ) (K : PUnit → sProp 𝕄),
      iprop(owns (c : Thread nD τ) arg2 fullShare s0 ∗ owns (c : Thread nD τ) arg3 fullShare s1 ∗ owns (c : Thread nD τ) arg4 fullShare s2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ owns (c : Thread nD τ) arg9 fullShare X
        ∗ (iprop(owns (c : Thread nD τ) arg2 fullShare s0 ∗ owns (c : Thread nD τ) arg3 fullShare s1 ∗ owns (c : Thread nD τ) arg4 fullShare s2 ∗ owns (c : Thread nD τ) arg5 fullShare x3 ∗ owns (c : Thread nD τ) arg6 fullShare x4 ∗ owns (c : Thread nD τ) arg7 fullShare (product i h2 s1 s2 x4 (stored i s0 x3 X)) ∗ owns (c : Thread nD τ) arg8 fullShare (k2_pay1 (s0 o11) x3) ∗ owns (c : Thread nD τ) arg9 fullShare (stored i s0 x3 X)) -∗ K ⟨⟩))
        ⊢ wp frame (wpE (defs₀ (F := F)) Variants.none c none) E
          (cc2_dgrad_fp8 i arg2 harg2 arg3 harg3 arg4 harg4 arg5 harg5 arg6 harg6 arg7 harg7 arg8 harg8 arg9 harg9) K := by
  intro E K
  simp only [cc2_dgrad_fp8_eq_skeleton]; unfold cc2_dgrad_fp8_skel
  unfold owns
  iintro ⟨⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%f9, %hf9, H9⟩, Hk⟩
  obtain rfl := harg2.eq_unread hf2
  obtain rfl := harg3.eq_unread hf3
  obtain rfl := harg4.eq_unread hf4
  obtain rfl := harg5.eq_unread hf5
  obtain rfl := harg6.eq_unread hf6
  obtain rfl := harg9.eq_unread hf9
  sl_exec (disch := first | sl_exact h1 | sl_exact h2)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; swap; · iexact H7
    ipureintro
    sl_unfold_words
    rw [View.read_writes_full]
    unfold product
    refine congr (congr (congr (congrArg k2_pay3 ?_) ?_) ?_) ?_
    · refine read_window i arg9 h2 _ _ ?_
      exact read_stored i arg2 harg2 arg5 harg5 arg9 harg9 s0 x3 X h1
    · rw [View.readAt_eq_ld, harg6.read_unread]; exact View.ld_unit_zero (S := S1024x8192) hz _ _
    · rw [View.readAt_eq_ld, harg3.read_unread]; exact congrArg s1 (eq_o11 _)
    · rw [View.readAt_eq_ld, harg4.read_unread]; exact congrArg s2 (eq_o11 _)
  isplitl [H8]
  · iexists _; isplitr; swap; · iexact H8
    ipureintro
    sl_unfold_words
    rw [View.read_writes_full]
    simp only [View.readAt_eq_ld, harg2.read_unread, harg3.read_unread, harg4.read_unread, harg5.read_unread, harg6.read_unread, harg9.read_unread, View.ld_unit_zero (S := S128x8192) hz, View.ld_unit_zero (S := S1024x8192) hz]
    exact congrArg (k2_pay1 · x3) (congrArg s0 (eq_o11 _))
  iexists _; isplitr; swap; · iexact H9
  ipureintro
  sl_unfold_words
  exact read_stored i arg2 harg2 arg5 harg5 arg9 harg9 s0 x3 X h1

set_option maxHeartbeats 2000000 in
/-- A point of the last grid row only multiplies. -/
theorem bodyC (h1 : ¬ k2_cond1 i = 1#1) (h2 : k2_cond2 i = 1#1) :
      ∀ (E : Set ℕ) (K : PUnit → sProp 𝕄),
      iprop(owns (c : Thread nD τ) arg3 fullShare s1 ∗ owns (c : Thread nD τ) arg4 fullShare s2 ∗ owns (c : Thread nD τ) arg6 fullShare x4 ∗ (∃ d, owns (c : Thread nD τ) arg7 fullShare d) ∗ owns (c : Thread nD τ) arg9 fullShare X
        ∗ (iprop(owns (c : Thread nD τ) arg3 fullShare s1 ∗ owns (c : Thread nD τ) arg4 fullShare s2 ∗ owns (c : Thread nD τ) arg6 fullShare x4 ∗ owns (c : Thread nD τ) arg7 fullShare (product i h2 s1 s2 x4 X) ∗ owns (c : Thread nD τ) arg9 fullShare X) -∗ K ⟨⟩))
        ⊢ wp frame (wpE (defs₀ (F := F)) Variants.none c none) E
          (cc2_dgrad_fp8 i arg2 harg2 arg3 harg3 arg4 harg4 arg5 harg5 arg6 harg6 arg7 harg7 arg8 harg8 arg9 harg9) K := by
  intro E K
  simp only [cc2_dgrad_fp8_eq_skeleton]; unfold cc2_dgrad_fp8_skel
  unfold owns
  iintro ⟨⟨%f3, %hf3, H3⟩, ⟨%f4, %hf4, H4⟩, ⟨%f6, %hf6, H6⟩, ⟨%d7, %f7, -, H7⟩, ⟨%f9, %hf9, H9⟩, Hk⟩
  obtain rfl := harg3.eq_unread hf3
  obtain rfl := harg4.eq_unread hf4
  obtain rfl := harg6.eq_unread hf6
  obtain rfl := harg9.eq_unread hf9
  sl_exec (disch := first | sl_exact h1 | sl_exact h2)
  sl_step
  iapply Hk
  isplitl [H3]
  · iexists _; isplitr; · ipureintro; exact harg3.read_unread _
    iexact H3
  isplitl [H4]
  · iexists _; isplitr; · ipureintro; exact harg4.read_unread _
    iexact H4
  isplitl [H6]
  · iexists _; isplitr; · ipureintro; exact harg6.read_unread _
    iexact H6
  isplitl [H7]
  · iexists _; isplitr; swap; · iexact H7
    ipureintro
    sl_unfold_words
    rw [View.read_writes_full]
    unfold product
    refine congr (congr (congr (congrArg k2_pay3 ?_) ?_) ?_) ?_
    · refine read_window i arg9 h2 _ _ ?_
      exact harg9.read_unread _
    · rw [View.readAt_eq_ld, harg6.read_unread]; exact View.ld_unit_zero (S := S1024x8192) hz _ _
    · rw [View.readAt_eq_ld, harg3.read_unread]; exact congrArg s1 (eq_o11 _)
    · rw [View.readAt_eq_ld, harg4.read_unread]; exact congrArg s2 (eq_o11 _)
  iexists _; isplitr; · ipureintro; exact harg9.read_unread _
  iexact H9

end Body

/-! ## The points in closed form -/

theorem ltN (t : Fin cfg2.N) : t.val < 200 := Nat.lt_of_lt_of_eq t.isLt N_2
theorem row_eq : ∀ t : Fin cfg2.N, (grid2.coords t 0).val = t.val / 8 :=
  (by decide +kernel : ∀ t : Fin grid2.N, (grid2.coords t 0).val = t.val / 8)
theorem col_eq : ∀ t : Fin cfg2.N, (grid2.coords t 1).val = t.val % 8 :=
  (by decide +kernel : ∀ t : Fin grid2.N, (grid2.coords t 1).val = t.val % 8)
/-- The first 192 points store a chunk's codes, -/
theorem hcond1 : ∀ t : Fin cfg2.N, k2_cond1 (grid2.coords t) = 1#1 ↔ t.val < 192 :=
  (by decide +kernel : ∀ t : Fin grid2.N, k2_cond1 (grid2.coords t) = 1#1 ↔ t.val < 192)
/-- all but the first eight multiply. -/
theorem hcond2 : ∀ t : Fin cfg2.N, k2_cond2 (grid2.coords t) = 1#1 ↔ 8 ≤ t.val :=
  (by decide +kernel : ∀ t : Fin grid2.N, k2_cond2 (grid2.coords t) = 1#1 ↔ 8 ≤ t.val)
theorem idle5 (t : Fin cfg2.N) : cfg2.idle 5 (cfg2.grid.coords t) = !(k2_cond2 (grid2.coords t) == 1#1) := rfl
theorem idle6 (t : Fin cfg2.N) : cfg2.idle 6 (cfg2.grid.coords t) = !(k2_cond1 (grid2.coords t) == 1#1) := rfl
/-- The product's block is not written back during the first grid row; -/
theorem flush5 : ∀ t : Fin cfg2.N, (cfg2.win 5).flush t = decide (8 ≤ t.val) :=
  (fun t => by
    rw [Pipeline.Window.flush_eq_flushF]
    revert t
    exact (by decide +kernel : ∀ t : Fin grid2.N, win2_5.flushF t = decide (8 ≤ t.val)))
/-- the codes' block is written back at each of the first 191 points and at the last one. -/
theorem flush6 : ∀ t : Fin cfg2.N, (cfg2.win 6).flush t = (decide (t.val < 191) || decide (t.val = 199)) :=
  (fun t => by
    rw [Pipeline.Window.flush_eq_flushF]
    revert t
    exact (by decide +kernel : ∀ t : Fin grid2.N, win2_6.flushF t = (decide (t.val < 191) || decide (t.val = 199))))
/-- From point 192 on the codes' buffer holds the last chunk's codes, not yet written back. -/
theorem fresh6 (n : ℕ) (hn : n ≤ cfg2.N) : cfg2.fresh 6 n = !(decide (192 ≤ n) && decide (n ≤ 199)) :=
  cfg2.fresh_tab 6 (fun n => !(decide (192 ≤ n) && decide (n ≤ 199))) rfl (fun t => by
    have ht := ltN t
    rw [flush6, idle6, show (k2_cond1 (grid2.coords t) == 1#1) = decide (t.val < 192) from Bool.eq_iff_iff.mpr (by simpa using hcond1 t), Bool.eq_iff_iff]
    simp
    omega) n hn

/-! ## The proof data, at an entry valuation -/

variable (V : (c : Dev nD) → (b : Ref sig .tc) → Buf (Elt F) ((c : Thread nD τ).loc b))

/-- Window `w`'s block at point `t`, read off the array at the entry valuation. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- A point by number. -/
def tot (n : ℕ) : Fin cfg2.N := ⟨n % 200, by rw [show cfg2.N = 200 from N_2]; omega⟩
theorem tot_val (t : Fin cfg2.N) : tot t.val = t := Fin.ext (Nat.mod_eq_of_lt (ltN t))

/-- The codes of the chunk of 128 rows of the gradient fetched for point `t`. -/
def codes (c : Dev nD) (t : Fin cfg2.N) : Vec F S128x8192 .fp8e5m2 :=
  k2_pay1 ((iblk V c 0 t : Vec F S1x1 .f32) o11) (iblk V c 3 t : Vec F S128x8192 .bf16)

/-- The codes of the eight chunks of grid row `m`, as the scratch buffer's slot holds them. -/
def rows (c : Dev nD) (m : ℕ) : Vec F S1x1024x8192 .fp8e5m2 :=
  fun y => codes V c (tot (8 * m + (y 1).val / 128)) (ix2 (⟨(y 1).val % 128, Nat.mod_lt _ (by decide)⟩ : Fin 128) (⟨(y 2).val, (y 2).isLt⟩ : Fin 8192))

/-- The scratch buffer before point `n`: the chunks of this grid row so far, and of the row before, are in their slots. -/
def Stored (c : Dev nD) (n : ℕ) (X : Vec F S2x1024x8192 .fp8e5m2) : Prop :=
  ∀ k, k < n → k < 192 → 8 * (n / 8) ≤ k + 8 → ∀ z : S2x1024x8192.Idx, (z 0).val = k / 8 % 2 → (z 1).val / 128 = k % 8 →
    X z = codes V c (tot k) (ix2 (⟨(z 1).val % 128, Nat.mod_lt _ (by decide)⟩ : Fin 128) (⟨(z 2).val, (z 2).isLt⟩ : Fin 8192))

/-- A point that stores a chunk keeps this, -/
theorem stored_step (c : Dev nD) (t : Fin cfg2.N) (ht : t.val < 192) (X : Vec F S2x1024x8192 .fp8e5m2) (h : Stored V c t.val X) :
    Stored V c (t.val + 1) (stored (grid2.coords t) (iblk V c 0 t : Vec F S1x1 .f32) (iblk V c 3 t : Vec F S128x8192 .bf16) X) := by
  intro k hk hk2 hk3 z z0 z1
  unfold stored VecWindow.put
  have e0 : k2_off1 (grid2.coords t) 0 = t.val / 8 % 2 := (congrFun (off1_eq (grid2.coords t)) 0).trans (by rw [row_eq]; rfl)
  have e1 : k2_off1 (grid2.coords t) 1 = t.val % 8 * 128 := (congrFun (off1_eq (grid2.coords t)) 1).trans (by rw [col_eq]; rfl)
  have e2 : k2_off1 (grid2.coords t) 2 = 0 := congrFun (off1_eq (grid2.coords t)) 2
  have z2 : (z 2).val < 8192 := (z 2).isLt
  by_cases hkt : k = t.val
  · subst hkt
    have hin : ∀ a, k2_off1 (grid2.coords t) a ≤ (z a).val ∧ (z a).val < k2_off1 (grid2.coords t) a + S1x128x8192.size a := fun a => by
      fin_cases a
      · show k2_off1 (grid2.coords t) 0 ≤ (z 0).val ∧ (z 0).val < k2_off1 (grid2.coords t) 0 + 1
        omega
      · show k2_off1 (grid2.coords t) 1 ≤ (z 1).val ∧ (z 1).val < k2_off1 (grid2.coords t) 1 + 128
        omega
      · show k2_off1 (grid2.coords t) 2 ≤ (z 2).val ∧ (z 2).val < k2_off1 (grid2.coords t) 2 + 8192
        omega
    rw [dif_pos hin, tot_val]
    unfold k2_pay2 codes
    refine Eq.trans (congrArg (shapeCast S1x128x8192 _ _) (?_ : _ = ix3 (0 : Fin 1) (⟨(z 1).val % 128, Nat.mod_lt _ (by decide)⟩ : Fin 128) (⟨(z 2).val, (z 2).isLt⟩ : Fin 8192)))
      (shapeCast_ab_1ab_apply _ _ _ _ _)
    funext a
    fin_cases a
    · refine Fin.ext ?_
      show (z 0).val - k2_off1 (grid2.coords t) 0 = 0
      omega
    · refine Fin.ext ?_
      show (z 1).val - k2_off1 (grid2.coords t) 1 = (z 1).val % 128
      omega
    · refine Fin.ext ?_
      show (z 2).val - k2_off1 (grid2.coords t) 2 = (z 2).val
      omega
  · have hout : ¬ ∀ a, k2_off1 (grid2.coords t) a ≤ (z a).val ∧ (z a).val < k2_off1 (grid2.coords t) a + S1x128x8192.size a := fun hall => by
      have h0 : k2_off1 (grid2.coords t) 0 ≤ (z 0).val ∧ (z 0).val < k2_off1 (grid2.coords t) 0 + 1 := hall 0
      have h1 : k2_off1 (grid2.coords t) 1 ≤ (z 1).val ∧ (z 1).val < k2_off1 (grid2.coords t) 1 + 128 := hall 1
      omega
    rw [dif_neg hout]
    exact h k (by omega) hk2 (by omega) z z0 z1

/-- and so does one that stores none. -/
theorem kept_step (c : Dev nD) (t : Fin cfg2.N) (ht : ¬ t.val < 192) (X : Vec F S2x1024x8192 .fp8e5m2) (h : Stored V c t.val X) :
    Stored V c (t.val + 1) X := fun k hk hk2 hk3 z z0 z1 => h k (by omega) hk2 (by omega) z z0 z1

/-- The slot a product reads holds the codes of the grid row before; -/
theorem window_rows (c : Dev nD) (t : Fin cfg2.N) (h2 : k2_cond2 (grid2.coords t) = 1#1) (X : Vec F S2x1024x8192 .fp8e5m2) (h : Stored V c t.val X) :
    VecWindow.window X (k2_off2 (grid2.coords t)) S1x1024x8192.size (k2_off2_inb (grid2.coords t) h2) = rows V c (t.val / 8 - 1) := by
  have h8 := (hcond2 t).mp h2
  have ht := ltN t
  have e0 : k2_off2 (grid2.coords t) 0 = (t.val / 8 + 1) % 2 := (congrFun (off2_eq (grid2.coords t)) 0).trans (by rw [row_eq]; rfl)
  have e1 : k2_off2 (grid2.coords t) 1 = 0 := congrFun (off2_eq (grid2.coords t)) 1
  have e2 : k2_off2 (grid2.coords t) 2 = 0 := congrFun (off2_eq (grid2.coords t)) 2
  funext y
  have y0 : (y 0).val < 1 := (y 0).isLt
  have y1 : (y 1).val < 1024 := (y 1).isLt
  unfold VecWindow.window rows
  have z0 : ((Rect.unit (s := S2x1024x8192) (k2_off2 (grid2.coords t)) S1x1024x8192.size (k2_off2_inb (grid2.coords t) h2)).emb y 0).val = k2_off2 (grid2.coords t) 0 + 1 * (y 0).val := rfl
  have z1 : ((Rect.unit (s := S2x1024x8192) (k2_off2 (grid2.coords t)) S1x1024x8192.size (k2_off2_inb (grid2.coords t) h2)).emb y 1).val = k2_off2 (grid2.coords t) 1 + 1 * (y 1).val := rfl
  have z2 : ((Rect.unit (s := S2x1024x8192) (k2_off2 (grid2.coords t)) S1x1024x8192.size (k2_off2_inb (grid2.coords t) h2)).emb y 2).val = k2_off2 (grid2.coords t) 2 + 1 * (y 2).val := rfl
  rw [h (8 * (t.val / 8 - 1) + (y 1).val / 128) (by omega) (by omega) (by omega) _ (by rw [z0]; omega) (by rw [z1]; omega)]
  congr 1
  refine congr (congrArg ix2 (Fin.ext ?_)) (Fin.ext ?_)
  · show _ % 128 = _ % 128
    rw [z1]; omega
  · show _ = (y 2).val
    rw [z2]; omega

/-- the chunk stored at the same point is in the other one. -/
theorem window_stored (t : Fin cfg2.N) (h2 : k2_cond2 (grid2.coords t) = 1#1) (s0 : Vec F S1x1 .f32) (x3 : Vec F S128x8192 .bf16) (X : Vec F S2x1024x8192 .fp8e5m2) :
    VecWindow.window (stored (grid2.coords t) s0 x3 X) (k2_off2 (grid2.coords t)) S1x1024x8192.size (k2_off2_inb (grid2.coords t) h2)
      = VecWindow.window X (k2_off2 (grid2.coords t)) S1x1024x8192.size (k2_off2_inb (grid2.coords t) h2) := by
  have e0 : k2_off2 (grid2.coords t) 0 = (t.val / 8 + 1) % 2 := (congrFun (off2_eq (grid2.coords t)) 0).trans (by rw [row_eq]; rfl)
  have e1 : k2_off1 (grid2.coords t) 0 = t.val / 8 % 2 := (congrFun (off1_eq (grid2.coords t)) 0).trans (by rw [row_eq]; rfl)
  unfold stored
  refine VecWindow.window_put_of_disjoint X _ _ _ _ _ _ (0 : Fin 3) ?_
  show k2_off2 (grid2.coords t) 0 + 1 ≤ k2_off1 (grid2.coords t) 0 ∨ k2_off1 (grid2.coords t) 0 + 1 ≤ k2_off2 (grid2.coords t) 0
  omega

/-- The block of the product computed at point `t`. -/
def prod (c : Dev nD) (t : Fin cfg2.N) : Vec F S128x8x1024 .bf16 :=
  k2_pay3 (rows V c (t.val / 8 - 1)) (iblk V c 4 t : Vec F S1024x8192 .fp8e4m3) ((iblk V c 1 t : Vec F S1x1 .f32) o11) ((iblk V c 2 t : Vec F S1x1 .f32) o11)

/-- The last point at or before `t` that stores a chunk. -/
def lastChunk (t : Fin cfg2.N) : Fin cfg2.N := ⟨min t.val 191, Nat.lt_of_le_of_lt (Nat.min_le_left _ _) t.isLt⟩

/-- What gives the scratch buffer back to the scoped buffers no window stages. -/
abbrev back (c : Dev nD) : sProp 𝕄 :=
  iprop((∃ f : Buf (Elt F) ((c : Thread nD τ).loc cc2_scratch0), ((c : Thread nD τ).loc cc2_scratch0) ↦{fullShare} f)
    -∗ Pipeline.scopedRest (Ix := Unit) (Name := ℕ) (U := UU) (Lvl := ℕ) (Val := Elt F) spec2 c)

/-- The invariant before point `n`. -/
def Phi (c : Dev nD) (n : ℕ) : sProp 𝕄 :=
  iprop(∃ X, ⌜Stored V c n X⌝ ∗ owns (c : Thread nD τ) (Memref.whole cc2_scratch0) fullShare X ∗ back c)

/-- The proof data: the arrays at `V`; after the body each input's buffer as fetched, the product's at its block, and
    the codes' at the codes of the last chunk stored; the invariant `Phi`; nothing owed. -/
def dat (c : Dev nD) : Dat τ (Elt F) Unit ℕ UU ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => prod V c t
    | ⟨6, _⟩ => codes V c (lastChunk t)
  Φ t := Phi V c t.val
  q _ := fullShare
  owed _ := 0

theorem A_eq (c : Dev nD) (w : Fin cfg2.W) : (dat V c).A w = V c (Pipeline.arrRef spec2 w) := by dsimp only [dat]
theorem after_0 (c : Dev nD) (t : Fin cfg2.N) : (dat V c).after 0 t = iblk V c 0 t := by dsimp only [dat]
theorem after_1 (c : Dev nD) (t : Fin cfg2.N) : (dat V c).after 1 t = iblk V c 1 t := by dsimp only [dat]
theorem after_2 (c : Dev nD) (t : Fin cfg2.N) : (dat V c).after 2 t = iblk V c 2 t := by dsimp only [dat]
theorem after_3 (c : Dev nD) (t : Fin cfg2.N) : (dat V c).after 3 t = iblk V c 3 t := by dsimp only [dat]
theorem after_4 (c : Dev nD) (t : Fin cfg2.N) : (dat V c).after 4 t = iblk V c 4 t := by dsimp only [dat]
theorem after_5 (c : Dev nD) (t : Fin cfg2.N) : (dat V c).after 5 t = prod V c t := by dsimp only [dat]
theorem after_6 (c : Dev nD) (t : Fin cfg2.N) : (dat V c).after 6 t = codes V c (lastChunk t) := by dsimp only [dat]

/-- An input's staging buffer holds its block when the body runs, fetched at this point or at an earlier one. -/
theorem before_0 (c : Dev nD) (t : Fin cfg2.N) (d) : (dat V c).before 0 t d = iblk V c 0 t :=
  ((dat V c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg2.N) (d) : (dat V c).before 1 t d = iblk V c 1 t :=
  ((dat V c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg2.N) (d) : (dat V c).before 2 t d = iblk V c 2 t :=
  ((dat V c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg2.N) (d) : (dat V c).before 3 t d = iblk V c 3 t :=
  ((dat V c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin cfg2.N) (d) : (dat V c).before 4 t d = iblk V c 4 t :=
  ((dat V c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
/-- From point 192 on the codes' buffer holds the last chunk's codes when the body runs. -/
theorem before_6 (c : Dev nD) (t : Fin cfg2.N) (ht : 192 ≤ t.val) (d) : (dat V c).before 6 t d = codes V c (lastChunk t) := by
  have hN := ltN t
  have hl : ∀ (t : Fin cfg2.N) (h : t.val - 1 < cfg2.N), 192 ≤ t.val → lastChunk ⟨t.val - 1, h⟩ = lastChunk t := fun t h h1 => Fin.ext (by
    show min (t.val - 1) 191 = min t.val 191
    omega)
  rw [(dat V c).before_out_traj 6 rfl (fun _ _ => rfl) (fun t _ _ hf => by
      rw [fresh6 t.val (Nat.le_of_lt t.isLt)] at hf
      have : 192 ≤ t.val := by
        simp at hf; omega
      rw [after_6, after_6, hl t _ this]) t.val t rfl d,
    fresh6 t.val (Nat.le_of_lt t.isLt), if_neg (by simp; omega), after_6, hl t _ ht]

/-- Window `w`'s staging memref at point `t`. -/
abbrev ms (w : Fin cfg2.W) (t : Fin cfg2.N) := (cfg2.win w).stage (cfg2.slots t w)

/-- What a live window is left at. -/
theorem leaves_live (c : Dev nD) (w : Fin cfg2.W) (t : Fin cfg2.N) (hi : cfg2.idle w (cfg2.grid.coords t) = false) :
    (dat V c).leavesExact w t = owns (c : Thread nD τ) (ms w t) fullShare ((dat V c).after w t) := by
  unfold Dat.leavesExact; rw [hi]

set_option maxHeartbeats 1000000 in
/-- The body at any point, in the three cases. -/
theorem sound_body (c : Dev nD) (t : Fin cfg2.N) :
    iprop((dat V c).Φ t.castSucc ∗ (dat V c).owesAt () t.castSucc
      ∗ (∃ d, owns (c : Thread nD τ) (ms 0 t) fullShare ((dat V c).before 0 t d))
      ∗ (∃ d, owns (c : Thread nD τ) (ms 1 t) fullShare ((dat V c).before 1 t d))
      ∗ (∃ d, owns (c : Thread nD τ) (ms 2 t) fullShare ((dat V c).before 2 t d))
      ∗ (∃ d, owns (c : Thread nD τ) (ms 3 t) fullShare ((dat V c).before 3 t d))
      ∗ (∃ d, owns (c : Thread nD τ) (ms 4 t) fullShare ((dat V c).before 4 t d))
      ∗ (∃ d, owns (c : Thread nD τ) (ms 5 t) fullShare ((dat V c).before 5 t d))
      ∗ (∃ d, owns (c : Thread nD τ) (ms 6 t) fullShare ((dat V c).before 6 t d)))
    ⊢ wp frame (wpE (defs₀ (F := F)) Variants.none c none) Set.univ (bodyAt2 t) (fun _ => iprop((dat V c).Φ t.succ ∗ (dat V c).owesAt () t.succ
      ∗ (dat V c).leavesExact 0 t ∗ (dat V c).leavesExact 1 t ∗ (dat V c).leavesExact 2 t ∗ (dat V c).leavesExact 3 t ∗ (dat V c).leavesExact 4 t ∗ (dat V c).leavesExact 5 t ∗ (dat V c).leavesExact 6 t)) := by
  have ht := ltN t
  unfold bodyAt2
  simp only [before_0, before_1, before_2, before_3, before_4]
  rw [leaves_live V c 0 t rfl, leaves_live V c 1 t rfl, leaves_live V c 2 t rfl, leaves_live V c 3 t rfl, leaves_live V c 4 t rfl,
    after_0, after_1, after_2, after_3, after_4,
    show (dat V c).Φ t.succ = Phi V c (t.val + 1) from rfl, show (dat V c).Φ t.castSucc = Phi V c t.val from rfl,
    show (dat V c).owesAt () t.succ = (dat V c).owesAt () t.castSucc from rfl]
  unfold Phi
  by_cases h1 : k2_cond1 (grid2.coords t) = 1#1 <;> by_cases h2 : k2_cond2 (grid2.coords t) = 1#1
  · have hlt := (hcond1 t).mp h1
    have l5 : cfg2.idle 5 (cfg2.grid.coords t) = false := by rw [idle5]; simpa using h2
    have l6 : cfg2.idle 6 (cfg2.grid.coords t) = false := by rw [idle6]; simpa using h1
    have hc : lastChunk t = t := Fin.ext (Nat.min_eq_left (by omega))
    rw [leaves_live V c 5 t l5, leaves_live V c 6 t l6, after_5, after_6, hc]
    iintro ⟨⟨%X, %hX, HS, Hb⟩, Ho, ⟨%d0, H0⟩, ⟨%d1, H1⟩, ⟨%d2, H2⟩, ⟨%d3, H3⟩, ⟨%d4, H4⟩, ⟨%d5, H5⟩, ⟨%d6, H6⟩⟩
    have hp : product (grid2.coords t) h2 (iblk V c 1 t : Vec F S1x1 .f32) (iblk V c 2 t : Vec F S1x1 .f32) (iblk V c 4 t : Vec F S1024x8192 .fp8e4m3)
        (stored (grid2.coords t) (iblk V c 0 t : Vec F S1x1 .f32) (iblk V c 3 t : Vec F S128x8192 .bf16) X) = prod V c t := by
      unfold product prod; rw [window_stored t h2, window_rows V c t h2 X hX]
    rw [← hp]
    iapply (bodyB c (grid2.coords t) _ _ _ _ _ _ _ _ _ _ _ _ _ _ _ _ (iblk V c 0 t) (iblk V c 1 t) (iblk V c 2 t) (iblk V c 3 t) (iblk V c 4 t) X h1 h2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS]; · iexact HS
    iintro ⟨H0, H1, H2, H3, H4, H5, H6, HS⟩
    isplitl [HS Hb]
    · iexists _
      isplitr; swap
      · isplitl [HS]; · iexact HS
        iexact Hb
      ipureintro
      exact stored_step V c t hlt X hX
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · have hlt := (hcond1 t).mp h1
    have h8 : ¬ 8 ≤ t.val := fun h => h2 ((hcond2 t).mpr h)
    have l6 : cfg2.idle 6 (cfg2.grid.coords t) = false := by rw [idle6]; simpa using h1
    have hc : lastChunk t = t := Fin.ext (Nat.min_eq_left (by omega))
    rw [(dat V c).leavesExact_idle 5 t (by rw [idle5]; simpa using h2) (by rw [flush5]; simpa using h8), leaves_live V c 6 t l6, after_6, hc]
    iintro ⟨⟨%X, %hX, HS, Hb⟩, Ho, ⟨%d0, H0⟩, ⟨%d1, H1⟩, ⟨%d2, H2⟩, ⟨%d3, H3⟩, ⟨%d4, H4⟩, H5, ⟨%d6, H6⟩⟩
    iapply (bodyA c (grid2.coords t) _ _ _ _ _ _ _ _ _ _ _ _ _ _ _ _ (iblk V c 0 t) (iblk V c 3 t) X h1 h2 Set.univ _)
    isplitl [H0]; · iexact H0
    isplitl [H3]; · iexact H3
    isplitl [H6]; · iexists _; iexact H6
    isplitl [HS]; · iexact HS
    iintro ⟨H0, H3, H6, HS⟩
    isplitl [HS Hb]
    · iexists _
      isplitr; swap
      · isplitl [HS]; · iexact HS
        iexact Hb
      ipureintro
      exact stored_step V c t hlt X hX
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · have hlt : ¬ t.val < 192 := fun h => h1 ((hcond1 t).mpr h)
    have l5 : cfg2.idle 5 (cfg2.grid.coords t) = false := by rw [idle5]; simpa using h2
    simp only [before_6 V c t (by omega)]
    rw [leaves_live V c 5 t l5, after_5]
    iintro ⟨⟨%X, %hX, HS, Hb⟩, Ho, ⟨%d0, H0⟩, ⟨%d1, H1⟩, ⟨%d2, H2⟩, ⟨%d3, H3⟩, ⟨%d4, H4⟩, ⟨%d5, H5⟩, ⟨%d6, H6⟩⟩
    have hp : product (grid2.coords t) h2 (iblk V c 1 t : Vec F S1x1 .f32) (iblk V c 2 t : Vec F S1x1 .f32) (iblk V c 4 t : Vec F S1024x8192 .fp8e4m3) X = prod V c t := by
      unfold product prod; rw [window_rows V c t h2 X hX]
    rw [← hp]
    iapply (bodyC c (grid2.coords t) _ _ _ _ _ _ _ _ _ _ _ _ _ _ _ _ (iblk V c 1 t) (iblk V c 2 t) (iblk V c 4 t) X h1 h2 Set.univ _)
    isplitl [H1]; · iexact H1
    isplitl [H2]; · iexact H2
    isplitl [H4]; · iexact H4
    isplitl [H5]; · iexists _; iexact H5
    isplitl [HS]; · iexact HS
    iintro ⟨H1, H2, H4, H5, HS⟩
    isplitl [HS Hb]
    · iexists _
      isplitr; swap
      · isplitl [HS]; · iexact HS
        iexact Hb
      ipureintro
      exact kept_step V c t hlt X hX
    isplitl [Ho]; · iexact Ho
    isplitl [H0]; · iexact H0
    isplitl [H1]; · iexact H1
    isplitl [H2]; · iexact H2
    isplitl [H3]; · iexact H3
    isplitl [H4]; · iexact H4
    isplitl [H5]; · iexact H5
    unfold Dat.leavesExact
    rw [show cfg2.idle 6 (cfg2.grid.coords t) = true by rw [idle6]; simpa using h1, flush6]
    rw [after_6]
    by_cases h9 : t.val = 199
    · rw [show (decide (t.val < 191) || decide (t.val = 199)) = true by simpa using Or.inr h9]
      iexact H6
    · rw [show (decide (t.val < 191) || decide (t.val = 199)) = false by simp; omega]
      iexists d6; rw [before_6 V c t (by omega)]; iexact H6
  · exact absurd ((hcond2 t).mpr (by have : ¬ t.val < 192 := fun h => h1 ((hcond1 t).mpr h); omega)) h2

/-- The body table's row at point `t`'s slots is the body as `bodyAt2` spells it. -/
theorem defs₀_row (t : Fin cfg2.N) :
    defs₀ (F := F) .tc cfg2.body (cfg2.bodyArgs t (cfg2.slots t)) = bodyAt2 t := by
  unfold defs₀; rw [Defs.onTc_tc]

/-- The pipeline library's body obligation, at every point. -/
theorem body_obligation (c : Dev nD) : BodyObligation (dat V c) (defs₀ (F := F)) Variants.none () Set.univ := fun t => by
  rw [bigSep_W2, bigSep_W2, defs₀_row]
  exact triple_restated (sound_body V c t) rfl .rfl fun _ => .rfl

/-- The region's scoped buffers make the invariant before the first point, -/
theorem enter (c : Dev nD) : (Pipeline.scopedRest (Ix := Unit) (Name := ℕ) (U := UU) (Lvl := ℕ) (Val := Elt F) spec2 c : sProp 𝕄) ⊢ (dat V c).Φ 0 := by
  rw [show (dat V c).Φ 0 = Phi V c 0 from rfl]
  unfold Phi back
  rw [scopedRest2_eq]
  simp only [owns_whole_eq]
  iintro ⟨R0, R1, R2, R3, R4, R5, R6, R7, R8, R9, ⟨%f, H⟩, Hr⟩
  iexists f
  isplitr
  · ipureintro; intro k h; omega
  isplitl [H]
  · iexists _; isplitr; swap; · iexact H
    ipureintro; rfl
  iintro H
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  isplitl [H]; · iexact H
  iexact Hr

/-- and the invariant after the last one gives them back. -/
theorem leave (c : Dev nD) : (dat V c).Φ (Fin.last cfg2.N) ⊢ (Pipeline.scopedRest (Ix := Unit) (Name := ℕ) (U := UU) (Lvl := ℕ) (Val := Elt F) spec2 c : sProp 𝕄) := by
  rw [show (dat V c).Φ (Fin.last cfg2.N) = Phi V c cfg2.N from rfl]
  unfold Phi back
  simp only [owns_whole_eq]
  iintro ⟨%X, -, ⟨%f, -, H⟩, Hb⟩
  iapply Hb
  iexists _; iexact H

end Cert.Kernel.Region2

end
-- ==== Proof.P.Run.lean ====
/-
  The whole program's run, at any float values: one host reshape, the three kernels one after another, four host
  reshapes. Between two of them the core's buffers are held at a valuation: the launch's, then the reshape's, then what
  each kernel leaves in its output windows' arrays. Every weakly fair execution terminates, and at the end every
  unscoped buffer is at the last valuation and every semaphore counter at zero.
-/
module

public import proofs.«01_k».proof.Proof.P.Region0
public import proofs.«01_k».proof.Proof.P.Region1
public import proofs.«01_k».proof.Proof.P.Region2

@[expose] public section

set_option maxRecDepth 16384

noncomputable section

namespace Cert.Kernel.Run

open Cert.Kernel Cert.Kernel.Gen Cert.Kernel.Common
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligation.loose cellOf Seg HostSeg RegionSeg)

variable {F : FTy → Type} [FloatOps F]

local notation "𝕄" => MT nD τ sig Unit (Elt F) ℕ UU ℕ

variable (m : (ℓ : Loc nD τ sig) → Buf (Elt F) ℓ)

/-! ## The valuations -/

/-- The buffers when the first kernel is entered, -/
def W1 (c : Dev nD) : Valuation τ sig (Elt F) := StableHlo.after hostOps0 (V0 m c)
/-- the first kernel's proof data, -/
def dat0 (c : Dev nD) : Dat τ (Elt F) Unit ℕ UU ℕ cfg0 c := Region0.dat (fun c b => W1 m c b) c
/-- the buffers after it, -/
def W2 (c : Dev nD) : Valuation τ sig (Elt F) := Pipeline.afterRegion (dat0 m c) (W1 m c)
/-- and so on. -/
def dat1 (c : Dev nD) : Dat τ (Elt F) Unit ℕ UU ℕ cfg1 c := Region1.dat (fun c b => W2 m c b) c
def W3 (c : Dev nD) : Valuation τ sig (Elt F) := Pipeline.afterRegion (dat1 m c) (W2 m c)
def dat2 (c : Dev nD) : Dat τ (Elt F) Unit ℕ UU ℕ cfg2 c := Region2.dat (fun c b => W3 m c b) c
def W4 (c : Dev nD) : Valuation τ sig (Elt F) := Pipeline.afterRegion (dat2 m c) (W3 m c)
/-- The buffers at the end. -/
def W5 (c : Dev nD) : Valuation τ sig (Elt F) := StableHlo.after hostOps3 (W4 m c)

theorem A0_eq (c : Dev nD) (w : Fin cfg0.W) : (dat0 m c).A w = W1 m c (Proc.devRef .tc (Pipeline.arrRef spec0 w)) := by dsimp only [dat0, Region0.dat]
theorem A1_eq (c : Dev nD) (w : Fin cfg1.W) : (dat1 m c).A w = W2 m c (Proc.devRef .tc (Pipeline.arrRef spec1 w)) := by dsimp only [dat1, Region1.dat]
theorem A2_eq (c : Dev nD) (w : Fin cfg2.W) : (dat2 m c).A w = W3 m c (Proc.devRef .tc (Pipeline.arrRef spec2 w)) := by dsimp only [dat2, Region2.dat]

/-- A buffer that no window of the first kernel writes stays as it is; -/
theorem W2_keeps (c : Dev nD) (r : Ref sig .tc) (h : ∀ w : Fin 6, Pipeline.arrRef spec0 w = r → (cfg0.win w).isOut = false) : W2 m c r = W1 m c r :=
  Pipeline.afterRegion_keeps (dat0 m c) (W1 m c) winFacts0.arr_inj (A0_eq m c) r h
/-- of the second; -/
theorem W3_keeps (c : Dev nD) (r : Ref sig .tc) (h : ∀ w : Fin 3, Pipeline.arrRef spec1 w = r → (cfg1.win w).isOut = false) : W3 m c r = W2 m c r :=
  Pipeline.afterRegion_keeps (dat1 m c) (W2 m c) winFacts1.arr_inj (A1_eq m c) r h
/-- of the third. -/
theorem W4_keeps (c : Dev nD) (r : Ref sig .tc) (h : ∀ w : Fin 7, Pipeline.arrRef spec2 w = r → (cfg2.win w).isOut = false) : W4 m c r = W3 m c r :=
  Pipeline.afterRegion_keeps (dat2 m c) (W3 m c) winFacts2.arr_inj (A2_eq m c) r h
/-- A window's array is what the kernel's points leave in it. -/
theorem W2_arr (c : Dev nD) (w : Fin cfg0.W) : W2 m c (Proc.devRef .tc (Pipeline.arrRef spec0 w)) = (dat0 m c).arrAt w cfg0.N :=
  Pipeline.afterRegion_arr (dat0 m c) (W1 m c) winFacts0.arr_inj w
theorem W3_arr (c : Dev nD) (w : Fin cfg1.W) : W3 m c (Proc.devRef .tc (Pipeline.arrRef spec1 w)) = (dat1 m c).arrAt w cfg1.N :=
  Pipeline.afterRegion_arr (dat1 m c) (W2 m c) winFacts1.arr_inj w
theorem W4_arr (c : Dev nD) (w : Fin cfg2.W) : W4 m c (Proc.devRef .tc (Pipeline.arrRef spec2 w)) = (dat2 m c).arrAt w cfg2.N :=
  Pipeline.afterRegion_arr (dat2 m c) (W3 m c) winFacts2.arr_inj w
theorem W1_of (c : Dev nD) (r : Ref sig .tc) (h : r ∉ hostOps0_W) : W1 m c r = V0 m c r :=
  StableHlo.after_of_writes_sub hostOps0 _ hostOps0_writes h
theorem W5_of (c : Dev nD) (r : Ref sig .tc) (h : r ∉ hostOps3_W) : W5 m c r = W4 m c r :=
  StableHlo.after_of_writes_sub hostOps3 _ hostOps3_writes h

/-- The arguments reach the end as launched. -/
theorem W5_arg0 (c : Dev nD) : W5 m c main_arg0 = m ((c : Thread nD τ).loc main_arg0) :=
  (W5_of m c main_arg0 (by decide)).trans <| (W4_keeps m c main_arg0 (by decide)).trans <| (W3_keeps m c main_arg0 (by decide)).trans <|
    (W2_keeps m c main_arg0 (by decide)).trans <| (W1_of m c main_arg0 (by decide)).trans rfl
theorem W5_arg1 (c : Dev nD) : W5 m c main_arg1 = m ((c : Thread nD τ).loc main_arg1) :=
  (W5_of m c main_arg1 (by decide)).trans <| (W4_keeps m c main_arg1 (by decide)).trans <| (W3_keeps m c main_arg1 (by decide)).trans <|
    (W2_keeps m c main_arg1 (by decide)).trans <| (W1_of m c main_arg1 (by decide)).trans rfl

/-! ## The segments -/

/-- The three kernels' proof data. -/
def pdats : (p : Fin 3) → (c : Dev nD) → Dat τ (Elt F) Unit ℕ UU ℕ (cfgs p) c
  | ⟨0, _⟩, c => dat0 m c
  | ⟨1, _⟩, c => dat1 m c
  | ⟨2, _⟩, c => dat2 m c

/-- Beside the buffers a core carries that it owes nothing. -/
abbrev E (c : Dev nD) : sProp 𝕄 := iprop(∃ W, owes (c : Thread nD τ) (0 : CellTallies nD τ sig Unit) W)

/-- The levels: every staging cell has the one level, and nothing is owed. -/
theorem cut (p : Fin 3) : Pipeline.LevelCut (pcfgs (F := F)) adm () L lv p (fun _ => 0) (fun _ => 0) where
  hι c w s := by simp [L]
  hιb c w s := le_refl _
  hD c g i h := absurd h (by simp)

theorem unscoped0 : ∀ w : Fin 6, (Pipeline.arrRef spec0 w).isScoped = false := by decide
theorem unscoped1 : ∀ w : Fin 3, (Pipeline.arrRef spec1 w).isScoped = false := by decide
theorem unscoped2 : ∀ w : Fin 7, (Pipeline.arrRef spec2 w).isScoped = false := by decide
/-- The second kernel's invariant is its scoped buffers alone. -/
theorem enter1 (c : Dev nD) : iprop(Pipeline.scopedRest (Ix := Unit) (Name := ℕ) (U := UU) (Lvl := ℕ) (Val := Elt F) spec1 c ∗ BI.emp) ⊢ (dat1 m c).Φ 0 := by
  rw [show (dat1 m c).Φ 0 = Pipeline.scopedRest spec1 c from rfl]; exact Laws.sep_emp.1
theorem leave1 (c : Dev nD) : (dat1 m c).Φ (Fin.last cfg1.N) ⊢ iprop(Pipeline.scopedRest (Ix := Unit) (Name := ℕ) (U := UU) (Lvl := ℕ) (Val := Elt F) spec1 c ∗ BI.emp) := by
  rw [show (dat1 m c).Φ (Fin.last cfg1.N) = Pipeline.scopedRest spec1 c from rfl]; exact Laws.sep_emp.2

/-- The first kernel's record: entered from the buffers held, left with them held at the next valuation. -/
def R0 : RegionSeg (pcfgs (F := F)) adm (pdats m) () defs₀ Variants.none L lv 0 :=
  RegionSeg.ofHeldIn _ _ _ _ _ _ _ _ 0 (fun _ => 0) (Pipeline.ucRefs τ sig) (fun _ => BI.emp) (fun _ => BI.emp) launch0.toP rfl
    (fun c => (Region0.body_obligation (fun c b => W1 m c b) c).loose) (fun _ _ => rfl) (fun _ => rfl) (fun c w => by show (dat0 m c).share w = _; unfold Dat.share; split <;> rfl)
    (fun c => Laws.sep_emp.1.trans (Region0.enter (fun c b => W1 m c b) c)) (fun c => (Region0.leave (fun c b => W1 m c b) c).trans Laws.sep_emp.2) (fun _ => 0) (cut 0) (fun _ => BI.emp) (W1 m)
    (fun c w => A0_eq m c w)
theorem R0_pre (c : Dev nD) : iprop(StableHlo.held (c : Thread nD τ) (Pipeline.ucRefs τ sig) (W1 m c) ∗ E c) ⊢ (R0 m).pre c :=
  (show (_ : sProp 𝕄) ⊢ _ by
    iintro ⟨H, HE⟩
    isplitl [H]; · iexact H
    isplitl [HE]; · iexact HE
    isplitl []; · iempintro
    iempintro).trans (RegionSeg.ofHeldIn_pre (Pipeline.arrRefs_sub_ucRefs _ unscoped0) c)
theorem R0_post (c : Dev nD) : (R0 m).post c ⊢ iprop(StableHlo.held (c : Thread nD τ) (Pipeline.ucRefs τ sig) (W2 m c) ∗ E c) :=
  (RegionSeg.ofHeldIn_post (Pipeline.arrRefs_sub_ucRefs _ unscoped0) c).trans (show (_ : sProp 𝕄) ⊢ _ by
    iintro ⟨H, HE, -, -⟩
    isplitl [H]; · iexact H
    iexact HE)

/-- The second kernel's record: entered from the buffers held, left with them held at the next valuation. -/
def R1 : RegionSeg (pcfgs (F := F)) adm (pdats m) () defs₀ Variants.none L lv 1 :=
  RegionSeg.ofHeldIn _ _ _ _ _ _ _ _ 1 (fun _ => 0) (Pipeline.ucRefs τ sig) (fun _ => BI.emp) (fun _ => BI.emp) launch1.toP rfl
    (fun c => (Region1.body_obligation (fun c b => W2 m c b) c).loose) (fun _ _ => rfl) (fun _ => rfl) (fun c w => by show (dat1 m c).share w = _; unfold Dat.share; split <;> rfl)
    (enter1 m) (leave1 m) (fun _ => 0) (cut 1) (fun _ => BI.emp) (W2 m)
    (fun c w => A1_eq m c w)
theorem R1_pre (c : Dev nD) : iprop(StableHlo.held (c : Thread nD τ) (Pipeline.ucRefs τ sig) (W2 m c) ∗ E c) ⊢ (R1 m).pre c :=
  (show (_ : sProp 𝕄) ⊢ _ by
    iintro ⟨H, HE⟩
    isplitl [H]; · iexact H
    isplitl [HE]; · iexact HE
    isplitl []; · iempintro
    iempintro).trans (RegionSeg.ofHeldIn_pre (Pipeline.arrRefs_sub_ucRefs _ unscoped1) c)
theorem R1_post (c : Dev nD) : (R1 m).post c ⊢ iprop(StableHlo.held (c : Thread nD τ) (Pipeline.ucRefs τ sig) (W3 m c) ∗ E c) :=
  (RegionSeg.ofHeldIn_post (Pipeline.arrRefs_sub_ucRefs _ unscoped1) c).trans (show (_ : sProp 𝕄) ⊢ _ by
    iintro ⟨H, HE, -, -⟩
    isplitl [H]; · iexact H
    iexact HE)

/-- The third kernel's record: entered from the buffers held, left with them held at the next valuation. -/
def R2 : RegionSeg (pcfgs (F := F)) adm (pdats m) () defs₀ Variants.none L lv 2 :=
  RegionSeg.ofHeldIn _ _ _ _ _ _ _ _ 2 (fun _ => 0) (Pipeline.ucRefs τ sig) (fun _ => BI.emp) (fun _ => BI.emp) launch2.toP rfl
    (fun c => (Region2.body_obligation (fun c b => W3 m c b) c).loose) (fun _ _ => rfl) (fun _ => rfl) (fun c w => by show (dat2 m c).share w = _; unfold Dat.share; split <;> rfl)
    (fun c => Laws.sep_emp.1.trans (Region2.enter (fun c b => W3 m c b) c)) (fun c => (Region2.leave (fun c b => W3 m c b) c).trans Laws.sep_emp.2) (fun _ => 0) (cut 2) (fun _ => BI.emp) (W3 m)
    (fun c w => A2_eq m c w)
theorem R2_pre (c : Dev nD) : iprop(StableHlo.held (c : Thread nD τ) (Pipeline.ucRefs τ sig) (W3 m c) ∗ E c) ⊢ (R2 m).pre c :=
  (show (_ : sProp 𝕄) ⊢ _ by
    iintro ⟨H, HE⟩
    isplitl [H]; · iexact H
    isplitl [HE]; · iexact HE
    isplitl []; · iempintro
    iempintro).trans (RegionSeg.ofHeldIn_pre (Pipeline.arrRefs_sub_ucRefs _ unscoped2) c)
theorem R2_post (c : Dev nD) : (R2 m).post c ⊢ iprop(StableHlo.held (c : Thread nD τ) (Pipeline.ucRefs τ sig) (W4 m c) ∗ E c) :=
  (RegionSeg.ofHeldIn_post (Pipeline.arrRefs_sub_ucRefs _ unscoped2) c).trans (show (_ : sProp 𝕄) ⊢ _ by
    iintro ⟨H, HE, -, -⟩
    isplitl [H]; · iexact H
    iexact HE)

/-- The host operations before the kernels, -/
def H0 : HostSeg (Ix := Unit) (Name := ℕ) (U := UU) (Lvl := ℕ) (pcfgs (F := F)) defs₀ Variants.none L lv :=
  HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (V0 m) E
/-- and after them. -/
def H3 : HostSeg (Ix := Unit) (Name := ℕ) (U := UU) (Lvl := ℕ) (pcfgs (F := F)) defs₀ Variants.none L lv :=
  HostSeg.ofOps _ _ _ _ _ (Pipeline.ucRefs τ sig) hostOps3
    (fun op h => Pipeline.sub_ucRefs op ((List.forall_iff_forall_mem.mp hostOps3_sub) op h))
    (fun op h => (List.forall_iff_forall_mem.mp hostOps3_fresh) op h) (W4 m) E

/-- The program's items. -/
abbrev items (c : Dev nD) : List (Seg (pcfgs (F := F)) adm (pdats m) () defs₀ Variants.none L lv) :=
  [.host (H0 m), .region (R0 m), .region (R1 m), .region (R2 m), .host (H3 m)]

/-! ## The run -/

/-- The launch's ghost state. -/
abbrev u₀ : UU := (initOf (Pipeline.cells cfgs cellOf_inj) (Pipeline.launchToks cfgs cellOf_inj), 1)

theorem launch_ghost : (ownU u₀ : sProp 𝕄) ⊢ |={Set.univ}=> iprop(BI.own ((embL : Emb (UR sig nD τ) 𝕄) (initOf (Pipeline.cells cfgs cellOf_inj) (Pipeline.launchToks cfgs cellOf_inj)))
    ∗ bigSep Finset.univ (fun _ : Dev nD => (BI.emp : sProp 𝕄))) := by
  iintro Hu
  ihave H := (ownU_pair _ _) $$ Hu
  icases H with ⟨HP, -⟩
  imodintro
  isplitl [HP]; · iexact HP
  iapply (show (BI.emp : sProp 𝕄) ⊢ bigSep Finset.univ (fun _ : Dev nD => (BI.emp : sProp 𝕄)) from by rw [BI.bigSep_emp_const])
  iempintro

/-- What a core has at launch makes the first thread state. -/
theorem launch_core (ρ : Dev nD → PrngReg) (c : Dev nD) : iprop(unscopedBufs c (fun b => m ((c.tc : Thread nD τ).loc b)) ∗ unscopedSems0 c
          ∗ owes (c.tc : Thread nD τ) (0 : CellTallies nD τ sig Unit) ∅ ∗ Pipeline.launchCred (fun _ => 0) c ∗ prngReg c (ρ c) ∗ BI.emp)
        ⊢ (iprop(StableHlo.held (c : Thread nD τ) (Pipeline.ucRefs τ sig) (V0 m c) ∗ E c) : sProp 𝕄) := by
  rw [← Pipeline.unscopedBufs_held (Ix := Unit) (Name := ℕ) (U := UU) (Lvl := ℕ) c (V0 m c)]
  iintro ⟨H, -, HO, -⟩
  isplitl [H]; · iexact H
  iexists _; iexact HO

set_option backward.isDefEq.respectTransparency.types false in
/-- THE RUN. Every weakly fair execution of the program from memory `m` with zero counters terminates; at the end every
    unscoped buffer of every core is at `W5` and every semaphore counter at zero. -/
theorem run (ρ : Dev nD → PrngReg) :
    θ_run defs (onTc (τ := τ) (main (F := F))) ⟨m, fun _ => 0, ρ⟩ (fun r => (∀ c : Dev nD, ∀ b : Ref sig .tc, b.isScoped = false →
      r.2.mem ((c.tc : Thread nD τ).loc b) = W5 m c b) ∧ r.2.sem = fun _ => 0) := by
  refine Pipeline.θ_run_regions_kit_dev_sems (pcfgs (F := F)) adm (pdats m) () cellOf_inj (embL : Emb (UR sig nD τ) 𝕄) defs₀ Variants.none L lv m ρ main
    (items m)
    (fun c Q => by
      rewrite [main_chain c, Seg.run_eq_chain,
        show (items m c).map Seg.prog = [
          StableHlo.seq hostOps0,
          Prog.lift (.customCall (Pipeline.entry 0) ()),
          Prog.lift (.customCall (Pipeline.entry 1) ()),
          Prog.lift (.customCall (Pipeline.entry 2) ()),
          StableHlo.seq hostOps3 ] from rfl]
      dsimp (config := { failIfUnchanged := false }) only
      exact .rfl)
    (fun c => by simp only [items, Seg.pipes_host, Seg.pipes_region, Seg.pipes_nil]; decide) (fun _ => 0) (fun g h => by simp [L, h]) (fun _ => BI.emp) u₀ launch_ghost
    (T₀ := fun c => iprop(StableHlo.held (c : Thread nD τ) (Pipeline.ucRefs τ sig) (V0 m c) ∗ E c))
    (Tₙ := fun c => StableHlo.held (c : Thread nD τ) (Pipeline.ucRefs τ sig) (W5 m c))
    (hch := fun c => ⟨.rfl, R0_pre m c, (R0_post m c).trans (R1_pre m c), (R1_post m c).trans (R2_pre m c), R2_post m c, sep_mono .rfl .rfl⟩)
    (hinit := ?_) (QY := fun c s => ∀ b : Ref sig .tc, b.isScoped = false → s.mem ((c.tc : Thread nD τ).loc b) = W5 m c b)
    (hfin := fun c s' => ?_) (hQ := fun _ h hz => ⟨h, funext fun g => hz g (.inr (regions_no_unscoped g.2))⟩)
  · have hsplit : (bigSep Finset.univ fun c : Dev nD => iprop(unscopedBufs c (fun b => m ((c.tc : Thread nD τ).loc b)) ∗ unscopedSems0 c
          ∗ owes (c.tc : Thread nD τ) (0 : CellTallies nD τ sig Unit) ∅ ∗ Pipeline.launchCred (fun _ => 0) c ∗ prngReg c (ρ c) ∗ BI.emp))
        ⊢ (bigSep Finset.univ fun c : Dev nD => iprop(StableHlo.held (c : Thread nD τ) (Pipeline.ucRefs τ sig) (V0 m c) ∗ E c) : sProp 𝕄) :=
      bigSep_mono fun c _ => launch_core m ρ c
    iintro ⟨H, -⟩
    imodintro
    iapply hsplit $$ H
  · unfold StableHlo.held
    iintro ⟨Hh, HSI⟩
    ihave Hr := (pointsTo_read_all (Pipeline.ucRefs τ sig) (fun b => ((c : Thread nD τ).1, b)) (W5 m c) s') $$ [Hh HSI]
    · isplitl [Hh] <;> iassumption
    icases Hr with ⟨%h, HSI⟩
    imodintro
    isplitr
    · ipureintro
      exact fun b hb => h (Proc.devRef .tc b) (Finset.mem_filter.mpr ⟨StableHlo.devRef_mem_tcRefs b, by simpa using hb⟩)
    · iexact HSI

/-- THE FRAME: the arguments end as launched, every counter at zero. -/
theorem frame (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run _ _ _).mono (fun r h => ⟨fun c => ⟨(h.1 c main_arg0 rfl).trans (W5_arg0 m c), (h.1 c main_arg1 rfl).trans (W5_arg1 m c)⟩, h.2⟩) (run m ρ)

end Cert.Kernel.Run

end
-- ==== Proof.PI.Common.lean ====
/-
  What the three regions' proofs share: the resource algebra, the zero offsets and the one index of a one-word table.
-/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Regions
public import Idealize.ShloMosaic.Lib.Pipeline.FrameBody
public import Idealize.ShloMosaic.Lib.Pipeline.RegionArraysS
public import Idealize.ShloMosaic.Lib.Pipeline.TableIdle
public import Idealize.ShloMosaic.Lib.Pipeline.Value
public import Idealize.ShloMosaic.Lib.WritesUnit
public import Idealize.ShloMosaic.Lib.VecWindow
public import Idealize.ShloMosaic.Lib.Ring
public import Idealize.ShloMosaic.Lib.Tactic
public import Idealize.ShloMosaic.Lib.WordCmp

@[expose] public section

noncomputable section

namespace Cert.KernelIdeal.Common

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The certificate's resource algebra: the pipeline library's beside one for counters, of which none is used. -/
abbrev UU : Type := UR sig nD τ × Counters

/-- No core owes another anything: every TensorCore's semaphore has the one level `0`, no other core's has any. -/
abbrev L : GSem nD τ sig → Finset Unit := fun g => if g.1.2 = .tc then {()} else ∅
abbrev lv : GSem nD τ sig → Unit → ℕ := fun _ _ => 0
abbrev 𝒱₀ : Variants := Variants.none

theorem hz : (![0, 0] : Fin 2 → Nat) = fun _ => 0 := funext fun a => by fin_cases a <;> rfl

/-- The one index of a one-word table. -/
abbrev o11 : S1x1.Idx := fun a => ⟨0, by fin_cases a <;> decide⟩

/-- A one-word table has no other index. -/
theorem eq_o11 (i : S1x1.Idx) : i = o11 := by
  funext a; apply Fin.ext
  have h := (i a).isLt
  have e : S1x1.size a = 1 := by fin_cases a <;> rfl
  show (i a).val = 0
  have h' : (i a).val < 1 := h.trans_eq e
  omega

/-- Proof data for a pipeline that is not the region's: anything. -/
def junkDat {cfg : Cfg sig Λ₀} (c : Dev nD) : Dat τ (Elt F) Unit ℕ UU ℕ cfg c where
  A _ := fun _ => Classical.arbitrary _
  after _ _ := fun _ => Classical.arbitrary _
  Φ _ := BI.emp
  q _ := fullShare
  owed _ := 0

end Cert.KernelIdeal.Common

end
-- ==== Proof.PI.Region0.lean ====
/-
  The first kernel of the program, `cc0_amax_scales`, at any float values: its body run once per case of its three
  conditions (the first point, a middle point, the last point), the two running maxima as functions of the point, and
  the pipeline's proof data over an arbitrary valuation of the arrays at the region's entry. The two scratch buffers
  hold the running maxima; the last point reduces them and writes the four scales.
-/
module

public import proofs.«01_k».proof.Proof.PI.Common

@[expose] public section

set_option maxRecDepth 16384

noncomputable section

namespace Cert.KernelIdeal.Region0

open Cert.KernelIdeal Cert.KernelIdeal.Gen Cert.KernelIdeal.Common
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The conditions and the words the last point stores -/

/-- The first `scf.if`'s condition (the point is the first), -/
abbrev cond1 (i : grid0.Coords) : Prop := Scalar.cmpi .ne (Scalar.extui (Scalar.cmpi .eq (BitVec.ofNat 32 (i 0).val) 0#32)) 0#32 = 1#1
/-- the second's (it is not the first), -/
abbrev cond2 (i : grid0.Coords) : Prop := Scalar.cmpi .ne (Scalar.extui (Scalar.cmpi .sgt (BitVec.ofNat 32 (i 0).val) 0#32)) 0#32 = 1#1
/-- and the third's (it is the last). -/
abbrev cond3 (i : grid0.Coords) : Prop := k0_cond3 i = 1#1

/-- The two scales of the gradient, from its running maxima, -/
def dyScale (A : Vec F S16x8192 .bf16) : F .f32 := k0_pay19 (k0_pay12 (F := F) (k0_pay9 A) (k0_pay10 A) 0#32)
def dyInv (A : Vec F S16x8192 .bf16) : F .f32 := k0_pay20 (k0_pay13 (F := F) (k0_pay9 A) (k0_pay10 A) 0#32)
/-- and of the weights, from theirs. -/
def wScale (B : Vec F S8x8192 .f32) : F .f32 :=
  k0_pay21 (k0_pay8 B) (k0_pay14 (k0_pay8 B)) (k0_pay15 (k0_pay8 B)) (k0_pay16 (k0_pay8 B)) (k0_pay17 (F := F))
def wInv (B : Vec F S8x8192 .f32) : F .f32 :=
  k0_pay22 (k0_pay8 B) (k0_pay14 (k0_pay8 B)) (k0_pay15 (k0_pay8 B)) (k0_pay16 (k0_pay8 B)) (k0_pay17 (F := F))

/-! ## The body, case by case -/

section Body

variable (c : Dev nD) (i : grid0.Coords)
  (arg1 : Memref sig .tc .vmem S384x8192 .bf16) (harg1 : arg1.IsWhole) (arg2 : Memref sig .tc .vmem S128x8192 .f32) (harg2 : arg2.IsWhole)
  (arg3 : Memref sig .tc .smem S1x1 .f32) (harg3 : arg3.IsWhole) (arg4 : Memref sig .tc .smem S1x1 .f32) (harg4 : arg4.IsWhole)
  (arg5 : Memref sig .tc .smem S1x1 .f32) (harg5 : arg5.IsWhole) (arg6 : Memref sig .tc .smem S1x1 .f32) (harg6 : arg6.IsWhole)
  (arg7 : Memref sig .tc .vmem S16x8192 .bf16) (harg7 : arg7.IsWhole) (arg8 : Memref sig .tc .vmem S8x8192 .f32) (harg8 : arg8.IsWhole)
  (x0 : Vec F S384x8192 .bf16) (x1 : Vec F S128x8192 .f32)

set_option maxHeartbeats 1000000 in
/-- The first point starts the two running maxima from its blocks. -/
theorem bodyA (h1 : cond1 i) (h2 : ¬ cond2 i) (h3 : ¬ cond3 i) : ∀ (E : Set ℕ) (K : PUnit → sProp 𝕄),
      iprop(owns (c : Thread nD τ) arg1 fullShare x0 ∗ owns (c : Thread nD τ) arg2 fullShare x1
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1
            ∗ owns (c : Thread nD τ) arg7 fullShare (k0_pay3 x0) ∗ owns (c : Thread nD τ) arg8 fullShare (k0_pay4 x1)) -∗ K ⟨⟩))
        ⊢ wp frame (wpE (defs₀ (F := F)) Variants.none c none) E
          (cc0_amax_scales i arg1 harg1 arg2 harg2 arg3 harg3 arg4 harg4 arg5 harg5 arg6 harg6 arg7 harg7 arg8 harg8) K := by
  intro E K
  simp only [cc0_amax_scales_eq_skeleton]; unfold cc0_amax_scales_skel
  unfold owns
  iintro ⟨⟨%f0, %hf0, H0⟩, ⟨%f1, %hf1, H1⟩, ⟨%d7, %f7, -, H7⟩, ⟨%d8, %f8, -, H8⟩, Hk⟩
  obtain rfl := harg1.eq_unread hf0; obtain rfl := harg2.eq_unread hf1
  sl_exec (disch := first | sl_exact h1 | sl_exact h2 | sl_exact h3)
  sl_step
  iapply Hk
  isplitl [H0]
  · iexists _; isplitr; · ipureintro; exact harg1.read_unread _
    iexact H0
  isplitl [H1]
  · iexists _; isplitr; · ipureintro; exact harg2.read_unread _
    iexact H1
  isplitl [H7]
  · iexists _; isplitr; swap; · iexact H7
    ipureintro
    sl_unfold_words
    rw [View.read_writes_full]
    simp only [View.readAt_eq_ld, harg1.read_unread, View.ld_unit_zero (S := S384x8192) hz]
  iexists _; isplitr; swap; · iexact H8
  ipureintro
  sl_unfold_words
  rw [View.read_writes_full]
  simp only [View.readAt_eq_ld, harg2.read_unread, View.ld_unit_zero (S := S128x8192) hz]

set_option maxHeartbeats 1000000 in
/-- A middle point takes its blocks into the two running maxima. -/
theorem bodyB (h1 : ¬ cond1 i) (h2 : cond2 i) (h3 : ¬ cond3 i) (X : Vec F S16x8192 .bf16) (Y : Vec F S8x8192 .f32) :
      ∀ (E : Set ℕ) (K : PUnit → sProp 𝕄),
      iprop(owns (c : Thread nD τ) arg1 fullShare x0 ∗ owns (c : Thread nD τ) arg2 fullShare x1
        ∗ owns (c : Thread nD τ) arg7 fullShare X ∗ owns (c : Thread nD τ) arg8 fullShare Y
        ∗ (iprop(owns (c : Thread nD τ) arg1 fullShare x0 ∗ owns (c : Thread nD τ) arg2 fullShare x1
            ∗ owns (c : Thread nD τ) arg7 fullShare (k0_pay5 x0 X) ∗ owns (c : Thread nD τ) arg8 fullShare (k0_pay6 x1 Y)) -∗ K ⟨⟩))
        ⊢ wp frame (wpE (defs₀ (F := F)) Variants.none c none) E
          (cc0_amax_scales i arg1 harg1 arg2 harg2 arg3 harg3 arg4 harg4 arg5 harg5 arg6 harg6 arg7 harg7 arg8 harg8) K := by
  intro E K
  simp only [cc0_amax_scales_eq_skeleton]; unfold cc0_amax_scales_skel
  unfold owns
  iintro ⟨⟨%f0, %hf0, H0⟩, ⟨%f1, %hf1, H1⟩, ⟨%f7, %hf7, H7⟩, ⟨%f8, %hf8, H8⟩, Hk⟩
  obtain rfl := harg1.eq_unread hf0; obtain rfl := harg2.eq_unread hf1
  obtain rfl := harg7.eq_unread hf7; obtain rfl := harg8.eq_unread hf8
  sl_exec (disch := first | sl_exact h1 | sl_exact h2 | sl_exact h3)
  sl_step
  iapply Hk
  isplitl [H0]
  · iexists _; isplitr; · ipureintro; exact harg1.read_unread _
    iexact H0
  isplitl [H1]
  · iexists _; isplitr; · ipureintro; exact harg2.read_unread _
    iexact H1
  isplitl [H7]
  · iexists _; isplitr; swap; · iexact H7
    ipureintro
    sl_unfold_words
    rw [View.read_writes_full]
    simp only [View.readAt_eq_ld, harg1.read_unread, harg7.read_unread, View.ld_unit_zero (S := S384x8192) hz, View.ld_unit_zero (S := S16x8192) hz]
  iexists _; isplitr; swap; · iexact H8
  ipureintro
  sl_unfold_words
  rw [View.read_writes_full]
  simp only [View.readAt_eq_ld, harg2.read_unread, harg8.read_unread, View.ld_unit_zero (S := S128x8192) hz, View.ld_unit_zero (S := S8x8192) hz]

set_option maxHeartbeats 2000000 in
/-- The last point takes its blocks in too, and stores the four scales of the two maxima. -/
theorem bodyC (h1 : ¬ cond1 i) (h2 : cond2 i) (h3 : cond3 i) (X : Vec F S16x8192 .bf16) (Y : Vec F S8x8192 .f32) :
      ∀ (E : Set ℕ) (K : PUnit → sProp 𝕄),
      iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (∃ d, owns (c : Thread nD τ) arg5 fullShare d) ∗ (∃ d, owns (c : Thread nD τ) arg6 fullShare d)
        ∗ owns (c : Thread nD τ) arg7 fullShare X ∗ owns (c : Thread nD τ) arg8 fullShare Y
        ∗ (iprop(owns (c : Thread nD τ) arg1 fullShare x0 ∗ owns (c : Thread nD τ) arg2 fullShare x1
            ∗ owns (c : Thread nD τ) arg3 fullShare (fun _ => dyScale (k0_pay5 x0 X)) ∗ owns (c : Thread nD τ) arg4 fullShare (fun _ => dyInv (k0_pay5 x0 X))
            ∗ owns (c : Thread nD τ) arg5 fullShare (fun _ => wScale (k0_pay6 x1 Y)) ∗ owns (c : Thread nD τ) arg6 fullShare (fun _ => wInv (k0_pay6 x1 Y))
            ∗ owns (c : Thread nD τ) arg7 fullShare (k0_pay5 x0 X) ∗ owns (c : Thread nD τ) arg8 fullShare (k0_pay6 x1 Y)) -∗ K ⟨⟩))
        ⊢ wp frame (wpE (defs₀ (F := F)) Variants.none c none) E
          (cc0_amax_scales i arg1 harg1 arg2 harg2 arg3 harg3 arg4 harg4 arg5 harg5 arg6 harg6 arg7 harg7 arg8 harg8) K := by
  intro E K
  simp only [cc0_amax_scales_eq_skeleton]; unfold cc0_amax_scales_skel
  simp only [k0_part1_eq_skeleton, k0_part2_eq_skeleton, k0_part3_eq_skeleton]
  unfold k0_part1_skel k0_part2_skel k0_part3_skel
  unfold owns
  iintro ⟨⟨%f0, %hf0, H0⟩, ⟨%f1, %hf1, H1⟩, ⟨%d3, %f3, -, H3⟩, ⟨%d4, %f4, -, H4⟩, ⟨%d5, %f5, -, H5⟩, ⟨%d6, %f6, -, H6⟩, ⟨%f7, %hf7, H7⟩, ⟨%f8, %hf8, H8⟩, Hk⟩
  obtain rfl := harg1.eq_unread hf0; obtain rfl := harg2.eq_unread hf1
  obtain rfl := harg7.eq_unread hf7; obtain rfl := harg8.eq_unread hf8
  sl_exec (disch := first | sl_exact h1 | sl_exact h2 | sl_exact h3)
  sl_step
  have e7 : arg7.view.readCov (Val := Elt F) [⟨Rect.unit ![0, 0] ![16, 8192] inb_S16x8192_S16x8192_0_0, k0_pay5 x0 X⟩]
      (Rect.unit ![0, 0] ![16, 8192] inb_S16x8192_S16x8192_0_0).toLoadRect = k0_pay5 x0 X := View.readCov_unit_zero (S := S16x8192) _ hz _ _
  have e8 : arg8.view.readCov (Val := Elt F) [⟨Rect.unit ![0, 0] ![8, 8192] inb_S8x8192_S8x8192_0_0, k0_pay6 x1 Y⟩]
      (Rect.unit ![0, 0] ![8, 8192] inb_S8x8192_S8x8192_0_0).toLoadRect = k0_pay6 x1 Y := View.readCov_unit_zero (S := S8x8192) _ hz _ _
  iapply Hk
  isplitl [H0]
  · iexists _; isplitr; · ipureintro; exact harg1.read_unread _
    iexact H0
  isplitl [H1]
  · iexists _; isplitr; · ipureintro; exact harg2.read_unread _
    iexact H1
  isplitl [H3]
  · iexists _; isplitr; swap; · iexact H3
    ipureintro
    sl_unfold_words
    rw [View.read_writes_full]
    simp only [View.readAt_eq_ld, View.ld_unit_zero (S := S384x8192) hz, View.ld_unit_zero (S := S16x8192) hz, View.ld_unit_zero (S := S128x8192) hz, View.ld_unit_zero (S := S8x8192) hz, View.read_writes_full, harg1.read_unread, harg2.read_unread, harg7.read_unread, harg8.read_unread]
    rw [e7]; rfl
  isplitl [H4]
  · iexists _; isplitr; swap; · iexact H4
    ipureintro
    sl_unfold_words
    rw [View.read_writes_full]
    simp only [View.readAt_eq_ld, View.ld_unit_zero (S := S384x8192) hz, View.ld_unit_zero (S := S16x8192) hz, View.ld_unit_zero (S := S128x8192) hz, View.ld_unit_zero (S := S8x8192) hz, View.read_writes_full, harg1.read_unread, harg2.read_unread, harg7.read_unread, harg8.read_unread]
    rw [e7]; rfl
  isplitl [H5]
  · iexists _; isplitr; swap; · iexact H5
    ipureintro
    sl_unfold_words
    rw [View.read_writes_full]
    simp only [View.readAt_eq_ld, View.ld_unit_zero (S := S384x8192) hz, View.ld_unit_zero (S := S16x8192) hz, View.ld_unit_zero (S := S128x8192) hz, View.ld_unit_zero (S := S8x8192) hz, View.read_writes_full, harg1.read_unread, harg2.read_unread, harg7.read_unread, harg8.read_unread]
    rw [e8]; rfl
  isplitl [H6]
  · iexists _; isplitr; swap; · iexact H6
    ipureintro
    sl_unfold_words
    rw [View.read_writes_full]
    simp only [View.readAt_eq_ld, View.ld_unit_zero (S := S384x8192) hz, View.ld_unit_zero (S := S16x8192) hz, View.ld_unit_zero (S := S128x8192) hz, View.ld_unit_zero (S := S8x8192) hz, View.read_writes_full, harg1.read_unread, harg2.read_unread, harg7.read_unread, harg8.read_unread]
    rw [e8]; rfl
  isplitl [H7]
  · iexists _; isplitr; swap; · iexact H7
    ipureintro
    sl_unfold_words
    rw [View.read_writes_full]
    simp only [View.readAt_eq_ld, harg1.read_unread, harg7.read_unread, View.ld_unit_zero (S := S384x8192) hz, View.ld_unit_zero (S := S16x8192) hz]
  iexists _; isplitr; swap; · iexact H8
  ipureintro
  sl_unfold_words
  rw [View.read_writes_full]
  simp only [View.readAt_eq_ld, harg2.read_unread, harg8.read_unread, View.ld_unit_zero (S := S128x8192) hz, View.ld_unit_zero (S := S8x8192) hz]

end Body

/-! ## The conditions in closed form -/

theorem hcond1 : ∀ t : Fin cfg0.N, cond1 (grid0.coords t) ↔ t.val % 64 = 0 :=
  (fun t => by
    have ht : t.val < 64 := Nat.lt_of_lt_of_eq t.isLt N_0
    have e0 : (grid0.coords t 0).val = t.val / 1 % 64 := Pipeline.Grid.coords_val t 0 (by decide) rfl
    simp only [cond1, e0]
    word_cmp
   : ∀ t : Fin grid0.N, cond1 (grid0.coords t) ↔ t.val % 64 = 0)

theorem hcond2 : ∀ t : Fin cfg0.N, cond2 (grid0.coords t) ↔ 1 ≤ t.val :=
  (by decide +kernel : ∀ t : Fin grid0.N, cond2 (grid0.coords t) ↔ 1 ≤ t.val)

theorem hcond3 : ∀ t : Fin cfg0.N, cond3 (grid0.coords t) ↔ t.val % 64 = 63 :=
  (fun t => by
    have ht : t.val < 64 := Nat.lt_of_lt_of_eq t.isLt N_0
    have e0 : (grid0.coords t 0).val = t.val / 1 % 64 := Pipeline.Grid.coords_val t 0 (by decide) rfl
    simp only [cond3, k0_cond3, e0]
    word_cmp
   : ∀ t : Fin grid0.N, cond3 (grid0.coords t) ↔ t.val % 64 = 63)

/-- Off the last point the four scales' windows are idle, -/
theorem idle_out (w : Fin cfg0.W) (hw : 2 ≤ w.val) (t : Fin cfg0.N) (h : ¬ cond3 (grid0.coords t)) : cfg0.idle w (cfg0.grid.coords t) = true := by
  have h' : (!(k0_cond3 (grid0.coords t) == 1#1)) = true := by simpa using h
  fin_cases w
  · exact absurd hw (by decide)
  · exact absurd hw (by decide)
  all_goals exact h'
/-- and at the last point they are not. -/
theorem live_out (w : Fin cfg0.W) (t : Fin cfg0.N) (h : cond3 (grid0.coords t)) : cfg0.idle w (cfg0.grid.coords t) = false := by
  have h' : (!(k0_cond3 (grid0.coords t) == 1#1)) = false := by simpa using h
  fin_cases w
  · rfl
  · rfl
  all_goals exact h'
/-- Off the last point no scale is written back. -/
theorem no_flush (w : Fin cfg0.W) (hw : 2 ≤ w.val) (t : Fin cfg0.N) (h : ¬ t.val % 64 = 63) : (cfg0.win w).flush t = false := by
  fin_cases w
  · exact absurd hw (by decide)
  · exact absurd hw (by decide)
  · exact Bool.eq_false_iff.mpr fun e => h ((flush0_2 t).mp e)
  · exact Bool.eq_false_iff.mpr fun e => h ((flush0_3 t).mp e)
  · exact Bool.eq_false_iff.mpr fun e => h ((flush0_4 t).mp e)
  · exact Bool.eq_false_iff.mpr fun e => h ((flush0_5 t).mp e)

/-! ## The proof data, at an entry valuation -/

variable (V : (c : Dev nD) → (b : Ref sig .tc) → Buf (Elt F) ((c : Thread nD τ).loc b))

/-- Window `w`'s block at point `t`, read off the array at the entry valuation. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The gradient's running maxima after point `n`, -/
def accDy (c : Dev nD) : (n : ℕ) → n < cfg0.N → Vec F S16x8192 .bf16
  | 0, h => k0_pay3 (iblk V c 0 ⟨0, h⟩ : Vec F S384x8192 .bf16)
  | n + 1, h => k0_pay5 (iblk V c 0 ⟨n + 1, h⟩ : Vec F S384x8192 .bf16) (accDy c n (Nat.lt_of_succ_lt h))
/-- and the weights'. -/
def accW (c : Dev nD) : (n : ℕ) → n < cfg0.N → Vec F S8x8192 .f32
  | 0, h => k0_pay4 (iblk V c 1 ⟨0, h⟩ : Vec F S128x8192 .f32)
  | n + 1, h => k0_pay6 (iblk V c 1 ⟨n + 1, h⟩ : Vec F S128x8192 .f32) (accW c n (Nat.lt_of_succ_lt h))

theorem lt63 : 63 < cfg0.N := by rw [show cfg0.N = 64 from N_0]; decide
/-- The maxima after the last point. -/
abbrev lastDy (c : Dev nD) : Vec F S16x8192 .bf16 := accDy V c 63 lt63
abbrev lastW (c : Dev nD) : Vec F S8x8192 .f32 := accW V c 63 lt63

/-- What gives the two scratch buffers back to the scoped buffers no window stages. -/
abbrev back (c : Dev nD) : sProp 𝕄 :=
  iprop((∃ f : Buf (Elt F) ((c : Thread nD τ).loc cc0_scratch0), ((c : Thread nD τ).loc cc0_scratch0) ↦{fullShare} f)
    -∗ (∃ f : Buf (Elt F) ((c : Thread nD τ).loc cc0_scratch1), ((c : Thread nD τ).loc cc0_scratch1) ↦{fullShare} f)
    -∗ Pipeline.scopedRest (Ix := Unit) (Name := ℕ) (U := UU) (Lvl := ℕ) (Val := Elt F) spec0 c)

/-- The invariant before point `n`: the scratch buffers hold the running maxima after point `n - 1`, if there is one. -/
def Phi (c : Dev nD) (n : ℕ) : sProp 𝕄 :=
  iprop(∃ X Y, ⌜∀ k (h : k < cfg0.N), n = k + 1 → X = accDy V c k h ∧ Y = accW V c k h⌝
    ∗ owns (c : Thread nD τ) (Memref.whole cc0_scratch0) fullShare X ∗ owns (c : Thread nD τ) (Memref.whole cc0_scratch1) fullShare Y ∗ back c)

/-- The proof data: the arrays at `V`; after the body each input's buffer as fetched and, at the last point, each
    output's at its scale; the invariant `Phi`; nothing owed. -/
def dat (c : Dev nD) : Dat τ (Elt F) Unit ℕ UU ℕ cfg0 c where
  A w := V c (Pipeline.arrRef spec0 w)
  after w t := match w with
    | ⟨0, _⟩ => iblk V c 0 t
    | ⟨1, _⟩ => iblk V c 1 t
    | ⟨2, _⟩ => fun _ => dyScale (lastDy V c)
    | ⟨3, _⟩ => fun _ => dyInv (lastDy V c)
    | ⟨4, _⟩ => fun _ => wScale (lastW V c)
    | ⟨5, _⟩ => fun _ => wInv (lastW V c)
  Φ t := Phi V c t.val
  q _ := fullShare
  owed _ := 0

theorem A_eq (c : Dev nD) (w : Fin cfg0.W) : (dat V c).A w = V c (Pipeline.arrRef spec0 w) := by dsimp only [dat]
theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = fun _ => dyScale (lastDy V c) := by dsimp only [dat]
theorem after_3 (c : Dev nD) (t : Fin cfg0.N) : (dat V c).after 3 t = fun _ => dyInv (lastDy V c) := by dsimp only [dat]
theorem after_4 (c : Dev nD) (t : Fin cfg0.N) : (dat V c).after 4 t = fun _ => wScale (lastW V c) := by dsimp only [dat]
theorem after_5 (c : Dev nD) (t : Fin cfg0.N) : (dat V c).after 5 t = fun _ => wInv (lastW V c) := by dsimp only [dat]

/-- An input's staging buffer holds its block when the body runs, fetched at this point or at an earlier one. -/
theorem before_0 (c : Dev nD) (t : Fin cfg0.N) (d) : (dat V c).before 0 t d = iblk V c 0 t :=
  ((dat V c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dat V c).before 1 t d = iblk V c 1 t :=
  ((dat V c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)

/-- Window `w`'s staging memref at point `t`. -/
abbrev ms (w : Fin cfg0.W) (t : Fin cfg0.N) := (cfg0.win w).stage (cfg0.slots t w)

/-- What a live window is left at. -/
theorem leaves_live (c : Dev nD) (w : Fin cfg0.W) (t : Fin cfg0.N) (hi : cfg0.idle w (cfg0.grid.coords t) = false) :
    (dat V c).leavesExact w t = owns (c : Thread nD τ) (ms w t) fullShare ((dat V c).after w t) := by
  unfold Dat.leavesExact; rw [hi]

/-- The body at any point, in the three cases. -/
theorem sound_body (c : Dev nD) (t : Fin cfg0.N) :
    iprop((dat V c).Φ t.castSucc ∗ (dat V c).owesAt () t.castSucc
      ∗ (∃ d, owns (c : Thread nD τ) (ms 0 t) fullShare ((dat V c).before 0 t d))
      ∗ (∃ d, owns (c : Thread nD τ) (ms 1 t) fullShare ((dat V c).before 1 t d))
      ∗ (∃ d, owns (c : Thread nD τ) (ms 2 t) fullShare ((dat V c).before 2 t d))
      ∗ (∃ d, owns (c : Thread nD τ) (ms 3 t) fullShare ((dat V c).before 3 t d))
      ∗ (∃ d, owns (c : Thread nD τ) (ms 4 t) fullShare ((dat V c).before 4 t d))
      ∗ (∃ d, owns (c : Thread nD τ) (ms 5 t) fullShare ((dat V c).before 5 t d)))
    ⊢ wp frame (wpE (defs₀ (F := F)) Variants.none c none) Set.univ (bodyAt0 t) (fun _ => iprop((dat V c).Φ t.succ ∗ (dat V c).owesAt () t.succ
      ∗ (dat V c).leavesExact 0 t ∗ (dat V c).leavesExact 1 t ∗ (dat V c).leavesExact 2 t
      ∗ (dat V c).leavesExact 3 t ∗ (dat V c).leavesExact 4 t ∗ (dat V c).leavesExact 5 t)) := by
  have ht : t.val < 64 := Nat.lt_of_lt_of_eq t.isLt N_0
  unfold bodyAt0
  simp only [before_0, before_1]
  rw [leaves_live V c 0 t rfl, leaves_live V c 1 t rfl, after_0, after_1,
    show (dat V c).Φ t.succ = Phi V c (t.val + 1) from rfl, show (dat V c).Φ t.castSucc = Phi V c t.val from rfl,
    show (dat V c).owesAt () t.succ = (dat V c).owesAt () t.castSucc from rfl]
  by_cases h3 : cond3 (grid0.coords t)
  · have hl := (hcond3 t).mp h3
    have hv : t.val = 63 := by omega
    have h1 : ¬ cond1 (grid0.coords t) := fun h => by have := (hcond1 t).mp h; omega
    have h2 : cond2 (grid0.coords t) := (hcond2 t).mpr (by omega)
    rw [leaves_live V c 2 t (live_out 2 t h3), leaves_live V c 3 t (live_out 3 t h3), leaves_live V c 4 t (live_out 4 t h3), leaves_live V c 5 t (live_out 5 t h3),
      after_2, after_3, after_4, after_5]
    obtain rfl : t = ⟨63, lt63⟩ := Fin.ext hv
    unfold Phi
    iintro ⟨⟨%X, %Y, %hXY, HS0, HS1, Hb⟩, Ho, ⟨%d0, H0⟩, ⟨%d1, H1⟩, ⟨%d2, H2⟩, ⟨%d3, H3⟩, ⟨%d4, H4⟩, ⟨%d5, H5⟩⟩
    obtain ⟨rfl, rfl⟩ := hXY 62 (Nat.lt_of_succ_lt lt63) rfl
    iapply ((bodyC c (grid0.coords ⟨63, lt63⟩) _ _ _ _ _ _ _ _ _ _ _ _ _ _ _ _ (iblk V c 0 ⟨63, lt63⟩) (iblk V c 1 ⟨63, lt63⟩) h1 h2 h3 (accDy V c 62 _) (accW V c 62 _)) Set.univ _)
    isplitl [H0]; · iexact H0
    isplitl [H1]; · iexact H1
    isplitl [H2]; · iexists _; iexact H2
    isplitl [H3]; · iexists _; iexact H3
    isplitl [H4]; · iexists _; iexact H4
    isplitl [H5]; · iexists _; iexact H5
    isplitl [HS0]; · iexact HS0
    isplitl [HS1]; · iexact HS1
    iintro ⟨H0, H1, H2, H3, H4, H5, HS0, HS1⟩
    isplitl [HS0 HS1 Hb]
    · iexists _, _
      isplitr; swap
      · isplitl [HS0]; · iexact HS0
        isplitl [HS1]; · iexact HS1
        iexact Hb
      ipureintro
      intro k hk e
      obtain rfl : k = 63 := by dsimp only at e; omega
      exact ⟨rfl, rfl⟩
    isplitl [Ho]; · iexact Ho
    isplitl [H0]; · iexact H0
    isplitl [H1]; · iexact H1
    isplitl [H2]; · iexact H2
    isplitl [H3]; · iexact H3
    isplitl [H4]; · iexact H4
    iexact H5
  · have hl : ¬ t.val % 64 = 63 := fun h => h3 ((hcond3 t).mpr h)
    rw [(dat V c).leavesExact_idle 2 t (idle_out 2 (by decide) t h3) (no_flush 2 (by decide) t hl),
      (dat V c).leavesExact_idle 3 t (idle_out 3 (by decide) t h3) (no_flush 3 (by decide) t hl),
      (dat V c).leavesExact_idle 4 t (idle_out 4 (by decide) t h3) (no_flush 4 (by decide) t hl),
      (dat V c).leavesExact_idle 5 t (idle_out 5 (by decide) t h3) (no_flush 5 (by decide) t hl)]
    unfold Phi
    iintro ⟨⟨%X, %Y, %hXY, HS0, HS1, Hb⟩, Ho, ⟨%d0, H0⟩, ⟨%d1, H1⟩, H2, H3, H4, H5⟩
    obtain ⟨n, hn⟩ := t
    cases n with
    | zero =>
      have h1 : cond1 (grid0.coords ⟨0, hn⟩) := (hcond1 _).mpr rfl
      have h2 : ¬ cond2 (grid0.coords ⟨0, hn⟩) := fun h => by have := (hcond2 _).mp h; dsimp only at this; omega
      iapply ((bodyA c (grid0.coords ⟨0, hn⟩) _ _ _ _ _ _ _ _ _ _ _ _ _ _ _ _ (iblk V c 0 ⟨0, hn⟩) (iblk V c 1 ⟨0, hn⟩) h1 h2 h3) Set.univ _)
      isplitl [H0]; · iexact H0
      isplitl [H1]; · iexact H1
      isplitl [HS0]; · iexists _; iexact HS0
      isplitl [HS1]; · iexists _; iexact HS1
      iintro ⟨H0, H1, HS0, HS1⟩
      isplitl [HS0 HS1 Hb]
      · iexists _, _
        isplitr; swap
        · isplitl [HS0]; · iexact HS0
          isplitl [HS1]; · iexact HS1
          iexact Hb
        ipureintro
        intro k hk e
        obtain rfl : k = 0 := by dsimp only at e; omega
        exact ⟨rfl, rfl⟩
      isplitl [Ho]; · iexact Ho
      isplitl [H0]; · iexact H0
      isplitl [H1]; · iexact H1
      isplitl [H2]; · iexact H2
      isplitl [H3]; · iexact H3
      isplitl [H4]; · iexact H4
      iexact H5
    | succ n =>
      have h1 : ¬ cond1 (grid0.coords ⟨n + 1, hn⟩) := fun h => by have := (hcond1 _).mp h; dsimp only at this ht; omega
      have h2 : cond2 (grid0.coords ⟨n + 1, hn⟩) := (hcond2 _).mpr (by dsimp only; omega)
      obtain ⟨rfl, rfl⟩ := hXY n (Nat.lt_of_succ_lt hn) rfl
      iapply ((bodyB c (grid0.coords ⟨n + 1, hn⟩) _ _ _ _ _ _ _ _ _ _ _ _ _ _ _ _ (iblk V c 0 ⟨n + 1, hn⟩) (iblk V c 1 ⟨n + 1, hn⟩) h1 h2 h3 (accDy V c n _) (accW V c n _)) Set.univ _)
      isplitl [H0]; · iexact H0
      isplitl [H1]; · iexact H1
      isplitl [HS0]; · iexact HS0
      isplitl [HS1]; · iexact HS1
      iintro ⟨H0, H1, HS0, HS1⟩
      isplitl [HS0 HS1 Hb]
      · iexists _, _
        isplitr; swap
        · isplitl [HS0]; · iexact HS0
          isplitl [HS1]; · iexact HS1
          iexact Hb
        ipureintro
        intro k hk e
        obtain rfl : k = n + 1 := by dsimp only at e; omega
        exact ⟨rfl, rfl⟩
      isplitl [Ho]; · iexact Ho
      isplitl [H0]; · iexact H0
      isplitl [H1]; · iexact H1
      isplitl [H2]; · iexact H2
      isplitl [H3]; · iexact H3
      isplitl [H4]; · iexact H4
      iexact H5

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The pipeline library's body obligation, at every point. -/
theorem body_obligation (c : Dev nD) : BodyObligation (dat V c) (defs₀ (F := F)) Variants.none () Set.univ := fun t => by
  rw [bigSep_W0, bigSep_W0, defs₀_row]
  exact triple_restated (sound_body V c t) rfl .rfl fun _ => .rfl

/-- The region's scoped buffers make the invariant before the first point, -/
theorem enter (c : Dev nD) : (Pipeline.scopedRest (Ix := Unit) (Name := ℕ) (U := UU) (Lvl := ℕ) (Val := Elt F) spec0 c : sProp 𝕄) ⊢ (dat V c).Φ 0 := by
  rw [show (dat V c).Φ 0 = Phi V c 0 from rfl]
  unfold Phi back
  rw [scopedRest0_eq]
  simp only [owns_whole_eq]
  iintro ⟨⟨%f0, H0⟩, ⟨%f1, H1⟩, Hr⟩
  iexists f0, f1
  isplitr
  · ipureintro; intro k h e; omega
  isplitl [H0]
  · iexists _; isplitr; swap; · iexact H0
    ipureintro; rfl
  isplitl [H1]
  · iexists _; isplitr; swap; · iexact H1
    ipureintro; rfl
  iintro H0 H1
  isplitl [H0]; · iexact H0
  isplitl [H1]; · iexact H1
  iexact Hr

/-- and the invariant after the last one gives them back. -/
theorem leave (c : Dev nD) : (dat V c).Φ (Fin.last cfg0.N) ⊢ (Pipeline.scopedRest (Ix := Unit) (Name := ℕ) (U := UU) (Lvl := ℕ) (Val := Elt F) spec0 c : sProp 𝕄) := by
  rw [show (dat V c).Φ (Fin.last cfg0.N) = Phi V c cfg0.N from rfl]
  unfold Phi back
  simp only [owns_whole_eq]
  iintro ⟨%X, %Y, -, ⟨%f0, -, H0⟩, ⟨%f1, -, H1⟩, Hb⟩
  iapply Hb $$ [H0] [H1]
  · iexists _; iexact H0
  · iexists _; iexact H1

end Cert.KernelIdeal.Region0

end
-- ==== Proof.PI.Region1.lean ====
/-
  The second kernel of the program, `cc1_quant_w`, at any float values: its body run once at a symbolic grid point, and
  the pipeline's proof data over an arbitrary valuation of the arrays at the region's entry. Point `t` of the 32 loads
  256 rows of the weights and the one word of the inverse scale, and stores the 256 rows of codes `k1_pay1`.
-/
module

public import proofs.«01_k».proof.Proof.PI.Common

@[expose] public section

set_option maxRecDepth 16384

noncomputable section

namespace Cert.KernelIdeal.Region1

open Cert.KernelIdeal Cert.KernelIdeal.Gen Cert.KernelIdeal.Common
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

set_option maxHeartbeats 1000000 in
/-- The body: from the inverse scale's word and a block of weights it leaves the block's codes. -/
theorem body (c : Dev nD) (i : grid1.Coords) (arg1 : Memref sig .tc .smem S1x1 .f32) (harg1 : arg1.IsWhole)
    (arg2 : Memref sig .tc .vmem S256x8192 .f32) (harg2 : arg2.IsWhole)
    (arg3 : Memref sig .tc .vmem S256x8192 .fp8e4m3) (harg3 : arg3.IsWhole)
    (x0 : Vec F S1x1 .f32) (x1 : Vec F S256x8192 .f32) : ∀ (E : Set ℕ) (K : PUnit → sProp 𝕄),
      iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (k1_pay1 x1 (x0 o11))) -∗ K ⟨⟩))
        ⊢ wp frame (wpE (defs₀ (F := F)) Variants.none c none) E (cc1_quant_w i arg1 harg1 arg2 harg2 arg3 harg3) K := by
  intro E K
  simp only [cc1_quant_w_eq_skeleton]; unfold cc1_quant_w_skel
  unfold owns
  iintro ⟨⟨%f0, %hf0, H0⟩, ⟨%f1, %hf1, H1⟩, ⟨%d2, %f2, -, H2⟩, Hk⟩
  obtain rfl := harg1.eq_unread hf0; obtain rfl := harg2.eq_unread hf1
  sl_exec
  sl_step
  iapply Hk
  isplitl [H0]
  · iexists _; isplitr; · ipureintro; exact harg1.read_unread _
    iexact H0
  isplitl [H1]
  · iexists _; isplitr; · ipureintro; exact harg2.read_unread _
    iexact H1
  iexists _; isplitr; swap; · iexact H2
  ipureintro
  sl_unfold_words
  rw [View.read_writes_full]
  simp only [View.readAt_eq_ld, harg1.read_unread, harg2.read_unread, View.ld_unit_zero (S := S256x8192) hz]
  exact congrArg (k1_pay1 x1) (congrArg x0 (eq_o11 _))

/-! ## The proof data, at an entry valuation -/

variable (V : (c : Dev nD) → (b : Ref sig .tc) → Buf (Elt F) ((c : Thread nD τ).loc b))

/-- Window `w`'s block at point `t`, read off the array at the entry valuation. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The proof data: the arrays at `V`; after the body each input's buffer as fetched and the output's at the block's
    codes; the invariant is the other regions' scoped buffers, which the body does not touch; nothing owed. -/
def dat (c : Dev nD) : Dat τ (Elt F) Unit ℕ UU ℕ cfg1 c where
  A w := V c (Pipeline.arrRef spec1 w)
  after w t := match w with
    | ⟨0, _⟩ => iblk V c 0 t
    | ⟨1, _⟩ => iblk V c 1 t
    | ⟨2, _⟩ => k1_pay1 (iblk V c 1 t : Vec F S256x8192 .f32) ((iblk V c 0 t : Vec F S1x1 .f32) o11)
  Φ _ := Pipeline.scopedRest (Ix := Unit) (Name := ℕ) (U := UU) (Lvl := ℕ) (Val := Elt F) spec1 c
  q _ := fullShare
  owed _ := 0

theorem A_eq (c : Dev nD) (w : Fin cfg1.W) : (dat V c).A w = V c (Pipeline.arrRef spec1 w) := by dsimp only [dat]
theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t
    = k1_pay1 (iblk V c 1 t : Vec F S256x8192 .f32) ((iblk V c 0 t : Vec F S1x1 .f32) o11) := by dsimp only [dat]

/-- An input's staging buffer holds its block when the body runs, fetched at this point or at an earlier one. -/
theorem before_0 (c : Dev nD) (t : Fin cfg1.N) (d) : (dat V c).before 0 t d = iblk V c 0 t :=
  ((dat V c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg1.N) (d) : (dat V c).before 1 t d = iblk V c 1 t :=
  ((dat V c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)

/-- Window `w`'s staging memref at point `t`. -/
abbrev ms (w : Fin cfg1.W) (t : Fin cfg1.N) := (cfg1.win w).stage (cfg1.slots t w)

/-- The body at any point: the inputs' buffers hold their blocks, so the run applies and leaves the codes. -/
theorem sound_body (c : Dev nD) (t : Fin cfg1.N) :
    iprop((dat V c).Φ t.castSucc ∗ (dat V c).owesAt () t.castSucc
      ∗ (∃ d, owns (c : Thread nD τ) (ms 0 t) fullShare ((dat V c).before 0 t d))
      ∗ (∃ d, owns (c : Thread nD τ) (ms 1 t) fullShare ((dat V c).before 1 t d))
      ∗ (∃ d, owns (c : Thread nD τ) (ms 2 t) fullShare ((dat V c).before 2 t d)))
    ⊢ wp frame (wpE (defs₀ (F := F)) Variants.none c none) Set.univ (bodyAt1 t) (fun _ => iprop((dat V c).Φ t.succ ∗ (dat V c).owesAt () t.succ
      ∗ owns (c : Thread nD τ) (ms 0 t) fullShare ((dat V c).after 0 t)
      ∗ owns (c : Thread nD τ) (ms 1 t) fullShare ((dat V c).after 1 t)
      ∗ owns (c : Thread nD τ) (ms 2 t) fullShare ((dat V c).after 2 t))) := by
  unfold bodyAt1
  simp only [before_0, before_1]
  rw [show (dat V c).Φ t.succ = (dat V c).Φ t.castSucc from rfl,
    show (dat V c).owesAt () t.succ = (dat V c).owesAt () t.castSucc from rfl,
    after_0, after_1, after_2]
  iintro ⟨HΦ, Ho, ⟨%d0, H0⟩, ⟨%d1, H1⟩, ⟨%d2, H2⟩⟩
  iapply ((body c (grid1.coords t) _ _ _ _ _ _ (iblk V c 0 t) (iblk V c 1 t)) Set.univ _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body table's row at point `t`'s slots is the body as `bodyAt1` spells it. -/
theorem defs₀_row (t : Fin cfg1.N) :
    defs₀ (F := F) .tc cfg1.body (cfg1.bodyArgs t (cfg1.slots t)) = bodyAt1 t := by
  unfold defs₀; rw [Defs.onTc_tc]

/-- The pipeline library's body obligation, at every point. -/
theorem body_obligation (c : Dev nD) : BodyObligation (dat V c) (defs₀ (F := F)) Variants.none () Set.univ := fun t => by
  rw [bigSep_W1, bigSep_W1, defs₀_row]
  exact triple_restated (sound_body V c t) rfl .rfl fun _ => .rfl

end Cert.KernelIdeal.Region1

end
-- ==== Proof.PI.Region2.lean ====
/-
  The third kernel of the program, `cc2_dgrad_fp8`, at any float values: its body run once per case of its two
  conditions. The scratch buffer has two slots of 1024 rows of codes: a point of grid row `i < 24` stores the codes of
  one chunk of 128 rows of the gradient in slot `i % 2`, and a point of grid row `i > 0` multiplies the 1024 rows of
  slot `(i - 1) % 2`, stored during the grid row before, by a block of the weights' codes.
-/
module

public import proofs.«01_k».proof.Proof.PI.Common
public import Idealize.ShloMosaic.Lib.ValueLayout

@[expose] public section

set_option maxRecDepth 16384

noncomputable section

namespace Cert.KernelIdeal.Region2

open Cert.KernelIdeal Cert.KernelIdeal.Gen Cert.KernelIdeal.Common
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ UU ℕ

/-- The point at row `a` and column `b` of the grid. -/
def pt (a : Fin 25) (b : Fin 8) : grid2.Coords := fun | 0 => a | 1 => b

/-- A chunk's codes go to slot `i % 2`, at its 128 rows; -/
theorem off1_eq (i : grid2.Coords) : k2_off1 i = ![(i 0).val % 2, (i 1).val * 128, 0] :=
  (by decide +kernel : ∀ (a : Fin 25) (b : Fin 8), k2_off1 (pt a b) = ![a.val % 2, b.val * 128, 0]) (i 0) (i 1)
/-- the product reads the other slot. -/
theorem off2_eq (i : grid2.Coords) : k2_off2 i = ![((i 0).val + 1) % 2, 0, 0] :=
  (by decide +kernel : ∀ a : Fin 25, k2_off2 (pt a 0) = ![(a.val + 1) % 2, 0, 0]) (i 0)
instance (i : grid2.Coords) : ClosedOff (k2_off1 i) := ⟨_, off1_eq i⟩
instance (i : grid2.Coords) : ClosedOff (k2_off2 i) := ⟨_, off2_eq i⟩

/-- The scratch buffer after a chunk's codes are stored in it, -/
def stored (i : grid2.Coords) (s0 : Vec F S1x1 .f32) (x3 : Vec F S128x8192 .bf16) (X : Vec F S2x1024x8192 .fp8e5m2) : Vec F S2x1024x8192 .fp8e5m2 :=
  VecWindow.put X (k2_off1 i) S1x128x8192.size (k2_pay2 (s0 o11) x3)
/-- and the block of the product with the 1024 rows of one of its slots. -/
def product (i : grid2.Coords) (h2 : k2_cond2 i = 1#1) (s1 s2 : Vec F S1x1 .f32) (x4 : Vec F S1024x8192 .fp8e4m3) (X : Vec F S2x1024x8192 .fp8e5m2) :
    FVec F S128x8x1024 .bf16 :=
  k2_pay3 (VecWindow.window X (k2_off2 i) S1x1024x8192.size (k2_off2_inb i h2)) x4 (s1 o11) (s2 o11)

/-! ## The body, case by case -/

section Body

variable (c : Dev nD) (i : grid2.Coords)
  (arg2 : Memref sig .tc .smem S1x1 .f32) (harg2 : arg2.IsWhole) (arg3 : Memref sig .tc .smem S1x1 .f32) (harg3 : arg3.IsWhole)
  (arg4 : Memref sig .tc .smem S1x1 .f32) (harg4 : arg4.IsWhole)
  (arg5 : Memref sig .tc .vmem S128x8192 .bf16) (harg5 : arg5.IsWhole) (arg6 : Memref sig .tc .vmem S1024x8192 .fp8e4m3) (harg6 : arg6.IsWhole)
  (arg7 : Memref sig .tc .vmem S128x8x1024 .bf16) (harg7 : arg7.IsWhole) (arg8 : Memref sig .tc .vmem S128x8192 .fp8e5m2) (harg8 : arg8.IsWhole)
  (arg9 : Memref sig .tc .vmem S2x1024x8192 .fp8e5m2) (harg9 : arg9.IsWhole)
  (s0 s1 s2 : Vec F S1x1 .f32) (x3 : Vec F S128x8192 .bf16) (x4 : Vec F S1024x8192 .fp8e4m3) (X : Vec F S2x1024x8192 .fp8e5m2)

/-- What the scratch buffer reads after the store. -/
theorem read_stored (h1 : k2_cond1 i = 1#1) :
    arg9.view.read (Elt F) (arg9.view.writes (Elt F) (harg9.unread X)
      [⟨Rect.unit (k2_off1 i) S1x128x8192.size (k2_off1_inb i h1),
        k2_pay2 (arg2.view.readAt (Elt F) (Rect.unit ![0, 0] S1x1.size inb_S1x1_S1x1_0_0).toLoadRect (harg2.unread s0) (Shape.Idx.first (by decide)))
          (arg5.view.readAt (Elt F) (Rect.unit ![0, 0] S128x8192.size inb_S128x8192_S128x8192_0_0).toLoadRect (harg5.unread x3))⟩]) = stored i s0 x3 X := by
  rw [View.read_writes_cons_put arg9.view _ (k2_off1_inb i h1) _ _ rfl, View.writes_nil, harg9.read_unread]
  unfold stored
  refine congrArg (fun w => VecWindow.put X (k2_off1 i) S1x128x8192.size w) (congr (congrArg k2_pay2 ?_) ?_)
  · rw [View.readAt_eq_ld, harg2.read_unread]; exact congrArg s0 (eq_o11 _)
  · rw [View.readAt_eq_ld, harg5.read_unread]; exact View.ld_unit_zero (S := S128x8192) hz _ _

/-- What a product's load of the scratch buffer reads. -/
theorem read_window (h2 : k2_cond2 i = 1#1) (f) (A : Vec F S2x1024x8192 .fp8e5m2) (hf : arg9.view.read (Elt F) f = A) :
    arg9.view.readAt (Elt F) (Rect.unit (s := S2x1024x8192) (k2_off2 i) S1x1024x8192.size (k2_off2_inb i h2)).toLoadRect f
      = VecWindow.window A (k2_off2 i) S1x1024x8192.size (k2_off2_inb i h2) := by
  subst hf
  exact View.readAt_unit arg9.view _ (k2_off2_inb i h2) rfl (k2_off2_inb i h2)

set_option maxHeartbeats 2000000 in
/-- A point of the first grid row stores one chunk's codes, in the result's block and in the scratch buffer. -/
theorem bodyA (h1 : k2_cond1 i = 1#1) (h2 : ¬ k2_cond2 i = 1#1) :
      ∀ (E : Set ℕ) (K : PUnit → sProp 𝕄),
      iprop(owns (c : Thread nD τ) arg2 fullShare s0 ∗ owns (c : Thread nD τ) arg5 fullShare x3 ∗ (∃ d, owns (c : Thread nD τ) arg8 fullShare d) ∗ owns (c : Thread nD τ) arg9 fullShare X
        ∗ (iprop(owns (c : Thread nD τ) arg2 fullShare s0 ∗ owns (c : Thread nD τ) arg5 fullShare x3 ∗ owns (c : Thread nD τ) arg8 fullShare (k2_pay1 (s0 o11) x3) ∗ owns (c : Thread nD τ) arg9 fullShare (stored i s0 x3 X)) -∗ K ⟨⟩))
        ⊢ wp frame (wpE (defs₀ (F := F)) Variants.none c none) E
          (cc2_dgrad_fp8 i arg2 harg2 arg3 harg3 arg4 harg4 arg5 harg5 arg6 harg6 arg7 harg7 arg8 harg8 arg9 harg9) K := by
  intro E K
  simp only [cc2_dgrad_fp8_eq_skeleton]; unfold cc2_dgrad_fp8_skel
  unfold owns
  iintro ⟨⟨%f2, %hf2, H2⟩, ⟨%f5, %hf5, H5⟩, ⟨%d8, %f8, -, H8⟩, ⟨%f9, %hf9, H9⟩, Hk⟩
  obtain rfl := harg2.eq_unread hf2
  obtain rfl := harg5.eq_unread hf5
  obtain rfl := harg9.eq_unread hf9
  sl_exec (disch := first | sl_exact h1 | sl_exact h2)
  sl_step
  iapply Hk
  isplitl [H2]
  · iexists _; isplitr; · ipureintro; exact harg2.read_unread _
    iexact H2
  isplitl [H5]
  · iexists _; isplitr; · ipureintro; exact harg5.read_unread _
    iexact H5
  isplitl [H8]
  · iexists _; isplitr; swap; · iexact H8
    ipureintro
    sl_unfold_words
    rw [View.read_writes_full]
    simp only [View.readAt_eq_ld, harg2.read_unread, harg3.read_unread, harg4.read_unread, harg5.read_unread, harg6.read_unread, harg9.read_unread, View.ld_unit_zero (S := S128x8192) hz, View.ld_unit_zero (S := S1024x8192) hz]
    exact congrArg (k2_pay1 · x3) (congrArg s0 (eq_o11 _))
  iexists _; isplitr; swap; · iexact H9
  ipureintro
  sl_unfold_words
  exact read_stored i arg2 harg2 arg5 harg5 arg9 harg9 s0 x3 X h1

set_option maxHeartbeats 2000000 in
/-- A point of a middle grid row stores one chunk's codes and multiplies the 1024 rows stored during the grid row before. -/
theorem bodyB (h1 : k2_cond1 i = 1#1) (h2 : k2_cond2 i = 1#1) :
      ∀ (E : Set ℕ) (K : PUnit → sProp 𝕄),
      iprop(owns (c : Thread nD τ) arg2 fullShare s0 ∗ owns (c : Thread nD τ) arg3 fullShare s1 ∗ owns (c : Thread nD τ) arg4 fullShare s2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ owns (c : Thread nD τ) arg9 fullShare X
        ∗ (iprop(owns (c : Thread nD τ) arg2 fullShare s0 ∗ owns (c : Thread nD τ) arg3 fullShare s1 ∗ owns (c : Thread nD τ) arg4 fullShare s2 ∗ owns (c : Thread nD τ) arg5 fullShare x3 ∗ owns (c : Thread nD τ) arg6 fullShare x4 ∗ owns (c : Thread nD τ) arg7 fullShare (product i h2 s1 s2 x4 (stored i s0 x3 X)) ∗ owns (c : Thread nD τ) arg8 fullShare (k2_pay1 (s0 o11) x3) ∗ owns (c : Thread nD τ) arg9 fullShare (stored i s0 x3 X)) -∗ K ⟨⟩))
        ⊢ wp frame (wpE (defs₀ (F := F)) Variants.none c none) E
          (cc2_dgrad_fp8 i arg2 harg2 arg3 harg3 arg4 harg4 arg5 harg5 arg6 harg6 arg7 harg7 arg8 harg8 arg9 harg9) K := by
  intro E K
  simp only [cc2_dgrad_fp8_eq_skeleton]; unfold cc2_dgrad_fp8_skel
  unfold owns
  iintro ⟨⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%f9, %hf9, H9⟩, Hk⟩
  obtain rfl := harg2.eq_unread hf2
  obtain rfl := harg3.eq_unread hf3
  obtain rfl := harg4.eq_unread hf4
  obtain rfl := harg5.eq_unread hf5
  obtain rfl := harg6.eq_unread hf6
  obtain rfl := harg9.eq_unread hf9
  sl_exec (disch := first | sl_exact h1 | sl_exact h2)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; swap; · iexact H7
    ipureintro
    sl_unfold_words
    rw [View.read_writes_full]
    unfold product
    refine congr (congr (congr (congrArg k2_pay3 ?_) ?_) ?_) ?_
    · refine read_window i arg9 h2 _ _ ?_
      exact read_stored i arg2 harg2 arg5 harg5 arg9 harg9 s0 x3 X h1
    · rw [View.readAt_eq_ld, harg6.read_unread]; exact View.ld_unit_zero (S := S1024x8192) hz _ _
    · rw [View.readAt_eq_ld, harg3.read_unread]; exact congrArg s1 (eq_o11 _)
    · rw [View.readAt_eq_ld, harg4.read_unread]; exact congrArg s2 (eq_o11 _)
  isplitl [H8]
  · iexists _; isplitr; swap; · iexact H8
    ipureintro
    sl_unfold_words
    rw [View.read_writes_full]
    simp only [View.readAt_eq_ld, harg2.read_unread, harg3.read_unread, harg4.read_unread, harg5.read_unread, harg6.read_unread, harg9.read_unread, View.ld_unit_zero (S := S128x8192) hz, View.ld_unit_zero (S := S1024x8192) hz]
    exact congrArg (k2_pay1 · x3) (congrArg s0 (eq_o11 _))
  iexists _; isplitr; swap; · iexact H9
  ipureintro
  sl_unfold_words
  exact read_stored i arg2 harg2 arg5 harg5 arg9 harg9 s0 x3 X h1

set_option maxHeartbeats 2000000 in
/-- A point of the last grid row only multiplies. -/
theorem bodyC (h1 : ¬ k2_cond1 i = 1#1) (h2 : k2_cond2 i = 1#1) :
      ∀ (E : Set ℕ) (K : PUnit → sProp 𝕄),
      iprop(owns (c : Thread nD τ) arg3 fullShare s1 ∗ owns (c : Thread nD τ) arg4 fullShare s2 ∗ owns (c : Thread nD τ) arg6 fullShare x4 ∗ (∃ d, owns (c : Thread nD τ) arg7 fullShare d) ∗ owns (c : Thread nD τ) arg9 fullShare X
        ∗ (iprop(owns (c : Thread nD τ) arg3 fullShare s1 ∗ owns (c : Thread nD τ) arg4 fullShare s2 ∗ owns (c : Thread nD τ) arg6 fullShare x4 ∗ owns (c : Thread nD τ) arg7 fullShare (product i h2 s1 s2 x4 X) ∗ owns (c : Thread nD τ) arg9 fullShare X) -∗ K ⟨⟩))
        ⊢ wp frame (wpE (defs₀ (F := F)) Variants.none c none) E
          (cc2_dgrad_fp8 i arg2 harg2 arg3 harg3 arg4 harg4 arg5 harg5 arg6 harg6 arg7 harg7 arg8 harg8 arg9 harg9) K := by
  intro E K
  simp only [cc2_dgrad_fp8_eq_skeleton]; unfold cc2_dgrad_fp8_skel
  unfold owns
  iintro ⟨⟨%f3, %hf3, H3⟩, ⟨%f4, %hf4, H4⟩, ⟨%f6, %hf6, H6⟩, ⟨%d7, %f7, -, H7⟩, ⟨%f9, %hf9, H9⟩, Hk⟩
  obtain rfl := harg3.eq_unread hf3
  obtain rfl := harg4.eq_unread hf4
  obtain rfl := harg6.eq_unread hf6
  obtain rfl := harg9.eq_unread hf9
  sl_exec (disch := first | sl_exact h1 | sl_exact h2)
  sl_step
  iapply Hk
  isplitl [H3]
  · iexists _; isplitr; · ipureintro; exact harg3.read_unread _
    iexact H3
  isplitl [H4]
  · iexists _; isplitr; · ipureintro; exact harg4.read_unread _
    iexact H4
  isplitl [H6]
  · iexists _; isplitr; · ipureintro; exact harg6.read_unread _
    iexact H6
  isplitl [H7]
  · iexists _; isplitr; swap; · iexact H7
    ipureintro
    sl_unfold_words
    rw [View.read_writes_full]
    unfold product
    refine congr (congr (congr (congrArg k2_pay3 ?_) ?_) ?_) ?_
    · refine read_window i arg9 h2 _ _ ?_
      exact harg9.read_unread _
    · rw [View.readAt_eq_ld, harg6.read_unread]; exact View.ld_unit_zero (S := S1024x8192) hz _ _
    · rw [View.readAt_eq_ld, harg3.read_unread]; exact congrArg s1 (eq_o11 _)
    · rw [View.readAt_eq_ld, harg4.read_unread]; exact congrArg s2 (eq_o11 _)
  iexists _; isplitr; · ipureintro; exact harg9.read_unread _
  iexact H9

end Body

/-! ## The points in closed form -/

theorem ltN (t : Fin cfg2.N) : t.val < 200 := Nat.lt_of_lt_of_eq t.isLt N_2
theorem row_eq : ∀ t : Fin cfg2.N, (grid2.coords t 0).val = t.val / 8 :=
  (by decide +kernel : ∀ t : Fin grid2.N, (grid2.coords t 0).val = t.val / 8)
theorem col_eq : ∀ t : Fin cfg2.N, (grid2.coords t 1).val = t.val % 8 :=
  (by decide +kernel : ∀ t : Fin grid2.N, (grid2.coords t 1).val = t.val % 8)
/-- The first 192 points store a chunk's codes, -/
theorem hcond1 : ∀ t : Fin cfg2.N, k2_cond1 (grid2.coords t) = 1#1 ↔ t.val < 192 :=
  (by decide +kernel : ∀ t : Fin grid2.N, k2_cond1 (grid2.coords t) = 1#1 ↔ t.val < 192)
/-- all but the first eight multiply. -/
theorem hcond2 : ∀ t : Fin cfg2.N, k2_cond2 (grid2.coords t) = 1#1 ↔ 8 ≤ t.val :=
  (by decide +kernel : ∀ t : Fin grid2.N, k2_cond2 (grid2.coords t) = 1#1 ↔ 8 ≤ t.val)
theorem idle5 (t : Fin cfg2.N) : cfg2.idle 5 (cfg2.grid.coords t) = !(k2_cond2 (grid2.coords t) == 1#1) := rfl
theorem idle6 (t : Fin cfg2.N) : cfg2.idle 6 (cfg2.grid.coords t) = !(k2_cond1 (grid2.coords t) == 1#1) := rfl
/-- The product's block is not written back during the first grid row; -/
theorem flush5 : ∀ t : Fin cfg2.N, (cfg2.win 5).flush t = decide (8 ≤ t.val) :=
  (fun t => by
    rw [Pipeline.Window.flush_eq_flushF]
    revert t
    exact (by decide +kernel : ∀ t : Fin grid2.N, win2_5.flushF t = decide (8 ≤ t.val)))
/-- the codes' block is written back at each of the first 191 points and at the last one. -/
theorem flush6 : ∀ t : Fin cfg2.N, (cfg2.win 6).flush t = (decide (t.val < 191) || decide (t.val = 199)) :=
  (fun t => by
    rw [Pipeline.Window.flush_eq_flushF]
    revert t
    exact (by decide +kernel : ∀ t : Fin grid2.N, win2_6.flushF t = (decide (t.val < 191) || decide (t.val = 199))))
/-- From point 192 on the codes' buffer holds the last chunk's codes, not yet written back. -/
theorem fresh6 (n : ℕ) (hn : n ≤ cfg2.N) : cfg2.fresh 6 n = !(decide (192 ≤ n) && decide (n ≤ 199)) :=
  cfg2.fresh_tab 6 (fun n => !(decide (192 ≤ n) && decide (n ≤ 199))) rfl (fun t => by
    have ht := ltN t
    rw [flush6, idle6, show (k2_cond1 (grid2.coords t) == 1#1) = decide (t.val < 192) from Bool.eq_iff_iff.mpr (by simpa using hcond1 t), Bool.eq_iff_iff]
    simp
    omega) n hn

/-! ## The proof data, at an entry valuation -/

variable (V : (c : Dev nD) → (b : Ref sig .tc) → Buf (Elt F) ((c : Thread nD τ).loc b))

/-- Window `w`'s block at point `t`, read off the array at the entry valuation. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- A point by number. -/
def tot (n : ℕ) : Fin cfg2.N := ⟨n % 200, by rw [show cfg2.N = 200 from N_2]; omega⟩
theorem tot_val (t : Fin cfg2.N) : tot t.val = t := Fin.ext (Nat.mod_eq_of_lt (ltN t))

/-- The codes of the chunk of 128 rows of the gradient fetched for point `t`. -/
def codes (c : Dev nD) (t : Fin cfg2.N) : Vec F S128x8192 .fp8e5m2 :=
  k2_pay1 ((iblk V c 0 t : Vec F S1x1 .f32) o11) (iblk V c 3 t : Vec F S128x8192 .bf16)

/-- The codes of the eight chunks of grid row `m`, as the scratch buffer's slot holds them. -/
def rows (c : Dev nD) (m : ℕ) : Vec F S1x1024x8192 .fp8e5m2 :=
  fun y => codes V c (tot (8 * m + (y 1).val / 128)) (ix2 (⟨(y 1).val % 128, Nat.mod_lt _ (by decide)⟩ : Fin 128) (⟨(y 2).val, (y 2).isLt⟩ : Fin 8192))

/-- The scratch buffer before point `n`: the chunks of this grid row so far, and of the row before, are in their slots. -/
def Stored (c : Dev nD) (n : ℕ) (X : Vec F S2x1024x8192 .fp8e5m2) : Prop :=
  ∀ k, k < n → k < 192 → 8 * (n / 8) ≤ k + 8 → ∀ z : S2x1024x8192.Idx, (z 0).val = k / 8 % 2 → (z 1).val / 128 = k % 8 →
    X z = codes V c (tot k) (ix2 (⟨(z 1).val % 128, Nat.mod_lt _ (by decide)⟩ : Fin 128) (⟨(z 2).val, (z 2).isLt⟩ : Fin 8192))

/-- A point that stores a chunk keeps this, -/
theorem stored_step (c : Dev nD) (t : Fin cfg2.N) (ht : t.val < 192) (X : Vec F S2x1024x8192 .fp8e5m2) (h : Stored V c t.val X) :
    Stored V c (t.val + 1) (stored (grid2.coords t) (iblk V c 0 t : Vec F S1x1 .f32) (iblk V c 3 t : Vec F S128x8192 .bf16) X) := by
  intro k hk hk2 hk3 z z0 z1
  unfold stored VecWindow.put
  have e0 : k2_off1 (grid2.coords t) 0 = t.val / 8 % 2 := (congrFun (off1_eq (grid2.coords t)) 0).trans (by rw [row_eq]; rfl)
  have e1 : k2_off1 (grid2.coords t) 1 = t.val % 8 * 128 := (congrFun (off1_eq (grid2.coords t)) 1).trans (by rw [col_eq]; rfl)
  have e2 : k2_off1 (grid2.coords t) 2 = 0 := congrFun (off1_eq (grid2.coords t)) 2
  have z2 : (z 2).val < 8192 := (z 2).isLt
  by_cases hkt : k = t.val
  · subst hkt
    have hin : ∀ a, k2_off1 (grid2.coords t) a ≤ (z a).val ∧ (z a).val < k2_off1 (grid2.coords t) a + S1x128x8192.size a := fun a => by
      fin_cases a
      · show k2_off1 (grid2.coords t) 0 ≤ (z 0).val ∧ (z 0).val < k2_off1 (grid2.coords t) 0 + 1
        omega
      · show k2_off1 (grid2.coords t) 1 ≤ (z 1).val ∧ (z 1).val < k2_off1 (grid2.coords t) 1 + 128
        omega
      · show k2_off1 (grid2.coords t) 2 ≤ (z 2).val ∧ (z 2).val < k2_off1 (grid2.coords t) 2 + 8192
        omega
    rw [dif_pos hin, tot_val]
    unfold k2_pay2 codes
    refine Eq.trans (congrArg (shapeCast S1x128x8192 _ _) (?_ : _ = ix3 (0 : Fin 1) (⟨(z 1).val % 128, Nat.mod_lt _ (by decide)⟩ : Fin 128) (⟨(z 2).val, (z 2).isLt⟩ : Fin 8192)))
      (shapeCast_ab_1ab_apply _ _ _ _ _)
    funext a
    fin_cases a
    · refine Fin.ext ?_
      show (z 0).val - k2_off1 (grid2.coords t) 0 = 0
      omega
    · refine Fin.ext ?_
      show (z 1).val - k2_off1 (grid2.coords t) 1 = (z 1).val % 128
      omega
    · refine Fin.ext ?_
      show (z 2).val - k2_off1 (grid2.coords t) 2 = (z 2).val
      omega
  · have hout : ¬ ∀ a, k2_off1 (grid2.coords t) a ≤ (z a).val ∧ (z a).val < k2_off1 (grid2.coords t) a + S1x128x8192.size a := fun hall => by
      have h0 : k2_off1 (grid2.coords t) 0 ≤ (z 0).val ∧ (z 0).val < k2_off1 (grid2.coords t) 0 + 1 := hall 0
      have h1 : k2_off1 (grid2.coords t) 1 ≤ (z 1).val ∧ (z 1).val < k2_off1 (grid2.coords t) 1 + 128 := hall 1
      omega
    rw [dif_neg hout]
    exact h k (by omega) hk2 (by omega) z z0 z1

/-- and so does one that stores none. -/
theorem kept_step (c : Dev nD) (t : Fin cfg2.N) (ht : ¬ t.val < 192) (X : Vec F S2x1024x8192 .fp8e5m2) (h : Stored V c t.val X) :
    Stored V c (t.val + 1) X := fun k hk hk2 hk3 z z0 z1 => h k (by omega) hk2 (by omega) z z0 z1

/-- The slot a product reads holds the codes of the grid row before; -/
theorem window_rows (c : Dev nD) (t : Fin cfg2.N) (h2 : k2_cond2 (grid2.coords t) = 1#1) (X : Vec F S2x1024x8192 .fp8e5m2) (h : Stored V c t.val X) :
    VecWindow.window X (k2_off2 (grid2.coords t)) S1x1024x8192.size (k2_off2_inb (grid2.coords t) h2) = rows V c (t.val / 8 - 1) := by
  have h8 := (hcond2 t).mp h2
  have ht := ltN t
  have e0 : k2_off2 (grid2.coords t) 0 = (t.val / 8 + 1) % 2 := (congrFun (off2_eq (grid2.coords t)) 0).trans (by rw [row_eq]; rfl)
  have e1 : k2_off2 (grid2.coords t) 1 = 0 := congrFun (off2_eq (grid2.coords t)) 1
  have e2 : k2_off2 (grid2.coords t) 2 = 0 := congrFun (off2_eq (grid2.coords t)) 2
  funext y
  have y0 : (y 0).val < 1 := (y 0).isLt
  have y1 : (y 1).val < 1024 := (y 1).isLt
  unfold VecWindow.window rows
  have z0 : ((Rect.unit (s := S2x1024x8192) (k2_off2 (grid2.coords t)) S1x1024x8192.size (k2_off2_inb (grid2.coords t) h2)).emb y 0).val = k2_off2 (grid2.coords t) 0 + 1 * (y 0).val := rfl
  have z1 : ((Rect.unit (s := S2x1024x8192) (k2_off2 (grid2.coords t)) S1x1024x8192.size (k2_off2_inb (grid2.coords t) h2)).emb y 1).val = k2_off2 (grid2.coords t) 1 + 1 * (y 1).val := rfl
  have z2 : ((Rect.unit (s := S2x1024x8192) (k2_off2 (grid2.coords t)) S1x1024x8192.size (k2_off2_inb (grid2.coords t) h2)).emb y 2).val = k2_off2 (grid2.coords t) 2 + 1 * (y 2).val := rfl
  rw [h (8 * (t.val / 8 - 1) + (y 1).val / 128) (by omega) (by omega) (by omega) _ (by rw [z0]; omega) (by rw [z1]; omega)]
  congr 1
  refine congr (congrArg ix2 (Fin.ext ?_)) (Fin.ext ?_)
  · show _ % 128 = _ % 128
    rw [z1]; omega
  · show _ = (y 2).val
    rw [z2]; omega

/-- the chunk stored at the same point is in the other one. -/
theorem window_stored (t : Fin cfg2.N) (h2 : k2_cond2 (grid2.coords t) = 1#1) (s0 : Vec F S1x1 .f32) (x3 : Vec F S128x8192 .bf16) (X : Vec F S2x1024x8192 .fp8e5m2) :
    VecWindow.window (stored (grid2.coords t) s0 x3 X) (k2_off2 (grid2.coords t)) S1x1024x8192.size (k2_off2_inb (grid2.coords t) h2)
      = VecWindow.window X (k2_off2 (grid2.coords t)) S1x1024x8192.size (k2_off2_inb (grid2.coords t) h2) := by
  have e0 : k2_off2 (grid2.coords t) 0 = (t.val / 8 + 1) % 2 := (congrFun (off2_eq (grid2.coords t)) 0).trans (by rw [row_eq]; rfl)
  have e1 : k2_off1 (grid2.coords t) 0 = t.val / 8 % 2 := (congrFun (off1_eq (grid2.coords t)) 0).trans (by rw [row_eq]; rfl)
  unfold stored
  refine VecWindow.window_put_of_disjoint X _ _ _ _ _ _ (0 : Fin 3) ?_
  show k2_off2 (grid2.coords t) 0 + 1 ≤ k2_off1 (grid2.coords t) 0 ∨ k2_off1 (grid2.coords t) 0 + 1 ≤ k2_off2 (grid2.coords t) 0
  omega

/-- The block of the product computed at point `t`. -/
def prod (c : Dev nD) (t : Fin cfg2.N) : Vec F S128x8x1024 .bf16 :=
  k2_pay3 (rows V c (t.val / 8 - 1)) (iblk V c 4 t : Vec F S1024x8192 .fp8e4m3) ((iblk V c 1 t : Vec F S1x1 .f32) o11) ((iblk V c 2 t : Vec F S1x1 .f32) o11)

/-- The last point at or before `t` that stores a chunk. -/
def lastChunk (t : Fin cfg2.N) : Fin cfg2.N := ⟨min t.val 191, Nat.lt_of_le_of_lt (Nat.min_le_left _ _) t.isLt⟩

/-- What gives the scratch buffer back to the scoped buffers no window stages. -/
abbrev back (c : Dev nD) : sProp 𝕄 :=
  iprop((∃ f : Buf (Elt F) ((c : Thread nD τ).loc cc2_scratch0), ((c : Thread nD τ).loc cc2_scratch0) ↦{fullShare} f)
    -∗ Pipeline.scopedRest (Ix := Unit) (Name := ℕ) (U := UU) (Lvl := ℕ) (Val := Elt F) spec2 c)

/-- The invariant before point `n`. -/
def Phi (c : Dev nD) (n : ℕ) : sProp 𝕄 :=
  iprop(∃ X, ⌜Stored V c n X⌝ ∗ owns (c : Thread nD τ) (Memref.whole cc2_scratch0) fullShare X ∗ back c)

/-- The proof data: the arrays at `V`; after the body each input's buffer as fetched, the product's at its block, and
    the codes' at the codes of the last chunk stored; the invariant `Phi`; nothing owed. -/
def dat (c : Dev nD) : Dat τ (Elt F) Unit ℕ UU ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => prod V c t
    | ⟨6, _⟩ => codes V c (lastChunk t)
  Φ t := Phi V c t.val
  q _ := fullShare
  owed _ := 0

theorem A_eq (c : Dev nD) (w : Fin cfg2.W) : (dat V c).A w = V c (Pipeline.arrRef spec2 w) := by dsimp only [dat]
theorem after_0 (c : Dev nD) (t : Fin cfg2.N) : (dat V c).after 0 t = iblk V c 0 t := by dsimp only [dat]
theorem after_1 (c : Dev nD) (t : Fin cfg2.N) : (dat V c).after 1 t = iblk V c 1 t := by dsimp only [dat]
theorem after_2 (c : Dev nD) (t : Fin cfg2.N) : (dat V c).after 2 t = iblk V c 2 t := by dsimp only [dat]
theorem after_3 (c : Dev nD) (t : Fin cfg2.N) : (dat V c).after 3 t = iblk V c 3 t := by dsimp only [dat]
theorem after_4 (c : Dev nD) (t : Fin cfg2.N) : (dat V c).after 4 t = iblk V c 4 t := by dsimp only [dat]
theorem after_5 (c : Dev nD) (t : Fin cfg2.N) : (dat V c).after 5 t = prod V c t := by dsimp only [dat]
theorem after_6 (c : Dev nD) (t : Fin cfg2.N) : (dat V c).after 6 t = codes V c (lastChunk t) := by dsimp only [dat]

/-- An input's staging buffer holds its block when the body runs, fetched at this point or at an earlier one. -/
theorem before_0 (c : Dev nD) (t : Fin cfg2.N) (d) : (dat V c).before 0 t d = iblk V c 0 t :=
  ((dat V c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg2.N) (d) : (dat V c).before 1 t d = iblk V c 1 t :=
  ((dat V c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg2.N) (d) : (dat V c).before 2 t d = iblk V c 2 t :=
  ((dat V c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg2.N) (d) : (dat V c).before 3 t d = iblk V c 3 t :=
  ((dat V c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin cfg2.N) (d) : (dat V c).before 4 t d = iblk V c 4 t :=
  ((dat V c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
/-- From point 192 on the codes' buffer holds the last chunk's codes when the body runs. -/
theorem before_6 (c : Dev nD) (t : Fin cfg2.N) (ht : 192 ≤ t.val) (d) : (dat V c).before 6 t d = codes V c (lastChunk t) := by
  have hN := ltN t
  have hl : ∀ (t : Fin cfg2.N) (h : t.val - 1 < cfg2.N), 192 ≤ t.val → lastChunk ⟨t.val - 1, h⟩ = lastChunk t := fun t h h1 => Fin.ext (by
    show min (t.val - 1) 191 = min t.val 191
    omega)
  rw [(dat V c).before_out_traj 6 rfl (fun _ _ => rfl) (fun t _ _ hf => by
      rw [fresh6 t.val (Nat.le_of_lt t.isLt)] at hf
      have : 192 ≤ t.val := by
        simp at hf; omega
      rw [after_6, after_6, hl t _ this]) t.val t rfl d,
    fresh6 t.val (Nat.le_of_lt t.isLt), if_neg (by simp; omega), after_6, hl t _ ht]

/-- Window `w`'s staging memref at point `t`. -/
abbrev ms (w : Fin cfg2.W) (t : Fin cfg2.N) := (cfg2.win w).stage (cfg2.slots t w)

/-- What a live window is left at. -/
theorem leaves_live (c : Dev nD) (w : Fin cfg2.W) (t : Fin cfg2.N) (hi : cfg2.idle w (cfg2.grid.coords t) = false) :
    (dat V c).leavesExact w t = owns (c : Thread nD τ) (ms w t) fullShare ((dat V c).after w t) := by
  unfold Dat.leavesExact; rw [hi]

set_option maxHeartbeats 1000000 in
/-- The body at any point, in the three cases. -/
theorem sound_body (c : Dev nD) (t : Fin cfg2.N) :
    iprop((dat V c).Φ t.castSucc ∗ (dat V c).owesAt () t.castSucc
      ∗ (∃ d, owns (c : Thread nD τ) (ms 0 t) fullShare ((dat V c).before 0 t d))
      ∗ (∃ d, owns (c : Thread nD τ) (ms 1 t) fullShare ((dat V c).before 1 t d))
      ∗ (∃ d, owns (c : Thread nD τ) (ms 2 t) fullShare ((dat V c).before 2 t d))
      ∗ (∃ d, owns (c : Thread nD τ) (ms 3 t) fullShare ((dat V c).before 3 t d))
      ∗ (∃ d, owns (c : Thread nD τ) (ms 4 t) fullShare ((dat V c).before 4 t d))
      ∗ (∃ d, owns (c : Thread nD τ) (ms 5 t) fullShare ((dat V c).before 5 t d))
      ∗ (∃ d, owns (c : Thread nD τ) (ms 6 t) fullShare ((dat V c).before 6 t d)))
    ⊢ wp frame (wpE (defs₀ (F := F)) Variants.none c none) Set.univ (bodyAt2 t) (fun _ => iprop((dat V c).Φ t.succ ∗ (dat V c).owesAt () t.succ
      ∗ (dat V c).leavesExact 0 t ∗ (dat V c).leavesExact 1 t ∗ (dat V c).leavesExact 2 t ∗ (dat V c).leavesExact 3 t ∗ (dat V c).leavesExact 4 t ∗ (dat V c).leavesExact 5 t ∗ (dat V c).leavesExact 6 t)) := by
  have ht := ltN t
  unfold bodyAt2
  simp only [before_0, before_1, before_2, before_3, before_4]
  rw [leaves_live V c 0 t rfl, leaves_live V c 1 t rfl, leaves_live V c 2 t rfl, leaves_live V c 3 t rfl, leaves_live V c 4 t rfl,
    after_0, after_1, after_2, after_3, after_4,
    show (dat V c).Φ t.succ = Phi V c (t.val + 1) from rfl, show (dat V c).Φ t.castSucc = Phi V c t.val from rfl,
    show (dat V c).owesAt () t.succ = (dat V c).owesAt () t.castSucc from rfl]
  unfold Phi
  by_cases h1 : k2_cond1 (grid2.coords t) = 1#1 <;> by_cases h2 : k2_cond2 (grid2.coords t) = 1#1
  · have hlt := (hcond1 t).mp h1
    have l5 : cfg2.idle 5 (cfg2.grid.coords t) = false := by rw [idle5]; simpa using h2
    have l6 : cfg2.idle 6 (cfg2.grid.coords t) = false := by rw [idle6]; simpa using h1
    have hc : lastChunk t = t := Fin.ext (Nat.min_eq_left (by omega))
    rw [leaves_live V c 5 t l5, leaves_live V c 6 t l6, after_5, after_6, hc]
    iintro ⟨⟨%X, %hX, HS, Hb⟩, Ho, ⟨%d0, H0⟩, ⟨%d1, H1⟩, ⟨%d2, H2⟩, ⟨%d3, H3⟩, ⟨%d4, H4⟩, ⟨%d5, H5⟩, ⟨%d6, H6⟩⟩
    have hp : product (grid2.coords t) h2 (iblk V c 1 t : Vec F S1x1 .f32) (iblk V c 2 t : Vec F S1x1 .f32) (iblk V c 4 t : Vec F S1024x8192 .fp8e4m3)
        (stored (grid2.coords t) (iblk V c 0 t : Vec F S1x1 .f32) (iblk V c 3 t : Vec F S128x8192 .bf16) X) = prod V c t := by
      unfold product prod; rw [window_stored t h2, window_rows V c t h2 X hX]
    rw [← hp]
    iapply (bodyB c (grid2.coords t) _ _ _ _ _ _ _ _ _ _ _ _ _ _ _ _ (iblk V c 0 t) (iblk V c 1 t) (iblk V c 2 t) (iblk V c 3 t) (iblk V c 4 t) X h1 h2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS]; · iexact HS
    iintro ⟨H0, H1, H2, H3, H4, H5, H6, HS⟩
    isplitl [HS Hb]
    · iexists _
      isplitr; swap
      · isplitl [HS]; · iexact HS
        iexact Hb
      ipureintro
      exact stored_step V c t hlt X hX
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · have hlt := (hcond1 t).mp h1
    have h8 : ¬ 8 ≤ t.val := fun h => h2 ((hcond2 t).mpr h)
    have l6 : cfg2.idle 6 (cfg2.grid.coords t) = false := by rw [idle6]; simpa using h1
    have hc : lastChunk t = t := Fin.ext (Nat.min_eq_left (by omega))
    rw [(dat V c).leavesExact_idle 5 t (by rw [idle5]; simpa using h2) (by rw [flush5]; simpa using h8), leaves_live V c 6 t l6, after_6, hc]
    iintro ⟨⟨%X, %hX, HS, Hb⟩, Ho, ⟨%d0, H0⟩, ⟨%d1, H1⟩, ⟨%d2, H2⟩, ⟨%d3, H3⟩, ⟨%d4, H4⟩, H5, ⟨%d6, H6⟩⟩
    iapply (bodyA c (grid2.coords t) _ _ _ _ _ _ _ _ _ _ _ _ _ _ _ _ (iblk V c 0 t) (iblk V c 3 t) X h1 h2 Set.univ _)
    isplitl [H0]; · iexact H0
    isplitl [H3]; · iexact H3
    isplitl [H6]; · iexists _; iexact H6
    isplitl [HS]; · iexact HS
    iintro ⟨H0, H3, H6, HS⟩
    isplitl [HS Hb]
    · iexists _
      isplitr; swap
      · isplitl [HS]; · iexact HS
        iexact Hb
      ipureintro
      exact stored_step V c t hlt X hX
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · have hlt : ¬ t.val < 192 := fun h => h1 ((hcond1 t).mpr h)
    have l5 : cfg2.idle 5 (cfg2.grid.coords t) = false := by rw [idle5]; simpa using h2
    simp only [before_6 V c t (by omega)]
    rw [leaves_live V c 5 t l5, after_5]
    iintro ⟨⟨%X, %hX, HS, Hb⟩, Ho, ⟨%d0, H0⟩, ⟨%d1, H1⟩, ⟨%d2, H2⟩, ⟨%d3, H3⟩, ⟨%d4, H4⟩, ⟨%d5, H5⟩, ⟨%d6, H6⟩⟩
    have hp : product (grid2.coords t) h2 (iblk V c 1 t : Vec F S1x1 .f32) (iblk V c 2 t : Vec F S1x1 .f32) (iblk V c 4 t : Vec F S1024x8192 .fp8e4m3) X = prod V c t := by
      unfold product prod; rw [window_rows V c t h2 X hX]
    rw [← hp]
    iapply (bodyC c (grid2.coords t) _ _ _ _ _ _ _ _ _ _ _ _ _ _ _ _ (iblk V c 1 t) (iblk V c 2 t) (iblk V c 4 t) X h1 h2 Set.univ _)
    isplitl [H1]; · iexact H1
    isplitl [H2]; · iexact H2
    isplitl [H4]; · iexact H4
    isplitl [H5]; · iexists _; iexact H5
    isplitl [HS]; · iexact HS
    iintro ⟨H1, H2, H4, H5, HS⟩
    isplitl [HS Hb]
    · iexists _
      isplitr; swap
      · isplitl [HS]; · iexact HS
        iexact Hb
      ipureintro
      exact kept_step V c t hlt X hX
    isplitl [Ho]; · iexact Ho
    isplitl [H0]; · iexact H0
    isplitl [H1]; · iexact H1
    isplitl [H2]; · iexact H2
    isplitl [H3]; · iexact H3
    isplitl [H4]; · iexact H4
    isplitl [H5]; · iexact H5
    unfold Dat.leavesExact
    rw [show cfg2.idle 6 (cfg2.grid.coords t) = true by rw [idle6]; simpa using h1, flush6]
    rw [after_6]
    by_cases h9 : t.val = 199
    · rw [show (decide (t.val < 191) || decide (t.val = 199)) = true by simpa using Or.inr h9]
      iexact H6
    · rw [show (decide (t.val < 191) || decide (t.val = 199)) = false by simp; omega]
      iexists d6; rw [before_6 V c t (by omega)]; iexact H6
  · exact absurd ((hcond2 t).mpr (by have : ¬ t.val < 192 := fun h => h1 ((hcond1 t).mpr h); omega)) h2

/-- The body table's row at point `t`'s slots is the body as `bodyAt2` spells it. -/
theorem defs₀_row (t : Fin cfg2.N) :
    defs₀ (F := F) .tc cfg2.body (cfg2.bodyArgs t (cfg2.slots t)) = bodyAt2 t := by
  unfold defs₀; rw [Defs.onTc_tc]

/-- The pipeline library's body obligation, at every point. -/
theorem body_obligation (c : Dev nD) : BodyObligation (dat V c) (defs₀ (F := F)) Variants.none () Set.univ := fun t => by
  rw [bigSep_W2, bigSep_W2, defs₀_row]
  exact triple_restated (sound_body V c t) rfl .rfl fun _ => .rfl

/-- The region's scoped buffers make the invariant before the first point, -/
theorem enter (c : Dev nD) : (Pipeline.scopedRest (Ix := Unit) (Name := ℕ) (U := UU) (Lvl := ℕ) (Val := Elt F) spec2 c : sProp 𝕄) ⊢ (dat V c).Φ 0 := by
  rw [show (dat V c).Φ 0 = Phi V c 0 from rfl]
  unfold Phi back
  rw [scopedRest2_eq]
  simp only [owns_whole_eq]
  iintro ⟨R0, R1, R2, R3, R4, R5, R6, R7, R8, R9, ⟨%f, H⟩, Hr⟩
  iexists f
  isplitr
  · ipureintro; intro k h; omega
  isplitl [H]
  · iexists _; isplitr; swap; · iexact H
    ipureintro; rfl
  iintro H
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  isplitl [H]; · iexact H
  iexact Hr

/-- and the invariant after the last one gives them back. -/
theorem leave (c : Dev nD) : (dat V c).Φ (Fin.last cfg2.N) ⊢ (Pipeline.scopedRest (Ix := Unit) (Name := ℕ) (U := UU) (Lvl := ℕ) (Val := Elt F) spec2 c : sProp 𝕄) := by
  rw [show (dat V c).Φ (Fin.last cfg2.N) = Phi V c cfg2.N from rfl]
  unfold Phi back
  simp only [owns_whole_eq]
  iintro ⟨%X, -, ⟨%f, -, H⟩, Hb⟩
  iapply Hb
  iexists _; iexact H

end Cert.KernelIdeal.Region2

end
-- ==== Proof.PI.Run.lean ====
/-
  The whole program's run, at any float values: one host reshape, the three kernels one after another, four host
  reshapes. Between two of them the core's buffers are held at a valuation: the launch's, then the reshape's, then what
  each kernel leaves in its output windows' arrays. Every weakly fair execution terminates, and at the end every
  unscoped buffer is at the last valuation and every semaphore counter at zero.
-/
module

public import proofs.«01_k».proof.Proof.PI.Region0
public import proofs.«01_k».proof.Proof.PI.Region1
public import proofs.«01_k».proof.Proof.PI.Region2

@[expose] public section

set_option maxRecDepth 16384

noncomputable section

namespace Cert.KernelIdeal.Run

open Cert.KernelIdeal Cert.KernelIdeal.Gen Cert.KernelIdeal.Common
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligation.loose cellOf Seg HostSeg RegionSeg)

variable {F : FTy → Type} [FloatOps F]

local notation "𝕄" => MT nD τ sig Unit (Elt F) ℕ UU ℕ

variable (m : (ℓ : Loc nD τ sig) → Buf (Elt F) ℓ)

/-! ## The valuations -/

/-- The buffers when the first kernel is entered, -/
def W1 (c : Dev nD) : Valuation τ sig (Elt F) := StableHlo.after hostOps0 (V0 m c)
/-- the first kernel's proof data, -/
def dat0 (c : Dev nD) : Dat τ (Elt F) Unit ℕ UU ℕ cfg0 c := Region0.dat (fun c b => W1 m c b) c
/-- the buffers after it, -/
def W2 (c : Dev nD) : Valuation τ sig (Elt F) := Pipeline.afterRegion (dat0 m c) (W1 m c)
/-- and so on. -/
def dat1 (c : Dev nD) : Dat τ (Elt F) Unit ℕ UU ℕ cfg1 c := Region1.dat (fun c b => W2 m c b) c
def W3 (c : Dev nD) : Valuation τ sig (Elt F) := Pipeline.afterRegion (dat1 m c) (W2 m c)
def dat2 (c : Dev nD) : Dat τ (Elt F) Unit ℕ UU ℕ cfg2 c := Region2.dat (fun c b => W3 m c b) c
def W4 (c : Dev nD) : Valuation τ sig (Elt F) := Pipeline.afterRegion (dat2 m c) (W3 m c)
/-- The buffers at the end. -/
def W5 (c : Dev nD) : Valuation τ sig (Elt F) := StableHlo.after hostOps3 (W4 m c)

theorem A0_eq (c : Dev nD) (w : Fin cfg0.W) : (dat0 m c).A w = W1 m c (Proc.devRef .tc (Pipeline.arrRef spec0 w)) := by dsimp only [dat0, Region0.dat]
theorem A1_eq (c : Dev nD) (w : Fin cfg1.W) : (dat1 m c).A w = W2 m c (Proc.devRef .tc (Pipeline.arrRef spec1 w)) := by dsimp only [dat1, Region1.dat]
theorem A2_eq (c : Dev nD) (w : Fin cfg2.W) : (dat2 m c).A w = W3 m c (Proc.devRef .tc (Pipeline.arrRef spec2 w)) := by dsimp only [dat2, Region2.dat]

/-- A buffer that no window of the first kernel writes stays as it is; -/
theorem W2_keeps (c : Dev nD) (r : Ref sig .tc) (h : ∀ w : Fin 6, Pipeline.arrRef spec0 w = r → (cfg0.win w).isOut = false) : W2 m c r = W1 m c r :=
  Pipeline.afterRegion_keeps (dat0 m c) (W1 m c) winFacts0.arr_inj (A0_eq m c) r h
/-- of the second; -/
theorem W3_keeps (c : Dev nD) (r : Ref sig .tc) (h : ∀ w : Fin 3, Pipeline.arrRef spec1 w = r → (cfg1.win w).isOut = false) : W3 m c r = W2 m c r :=
  Pipeline.afterRegion_keeps (dat1 m c) (W2 m c) winFacts1.arr_inj (A1_eq m c) r h
/-- of the third. -/
theorem W4_keeps (c : Dev nD) (r : Ref sig .tc) (h : ∀ w : Fin 7, Pipeline.arrRef spec2 w = r → (cfg2.win w).isOut = false) : W4 m c r = W3 m c r :=
  Pipeline.afterRegion_keeps (dat2 m c) (W3 m c) winFacts2.arr_inj (A2_eq m c) r h
/-- A window's array is what the kernel's points leave in it. -/
theorem W2_arr (c : Dev nD) (w : Fin cfg0.W) : W2 m c (Proc.devRef .tc (Pipeline.arrRef spec0 w)) = (dat0 m c).arrAt w cfg0.N :=
  Pipeline.afterRegion_arr (dat0 m c) (W1 m c) winFacts0.arr_inj w
theorem W3_arr (c : Dev nD) (w : Fin cfg1.W) : W3 m c (Proc.devRef .tc (Pipeline.arrRef spec1 w)) = (dat1 m c).arrAt w cfg1.N :=
  Pipeline.afterRegion_arr (dat1 m c) (W2 m c) winFacts1.arr_inj w
theorem W4_arr (c : Dev nD) (w : Fin cfg2.W) : W4 m c (Proc.devRef .tc (Pipeline.arrRef spec2 w)) = (dat2 m c).arrAt w cfg2.N :=
  Pipeline.afterRegion_arr (dat2 m c) (W3 m c) winFacts2.arr_inj w
theorem W1_of (c : Dev nD) (r : Ref sig .tc) (h : r ∉ hostOps0_W) : W1 m c r = V0 m c r :=
  StableHlo.after_of_writes_sub hostOps0 _ hostOps0_writes h
theorem W5_of (c : Dev nD) (r : Ref sig .tc) (h : r ∉ hostOps3_W) : W5 m c r = W4 m c r :=
  StableHlo.after_of_writes_sub hostOps3 _ hostOps3_writes h

/-- The arguments reach the end as launched. -/
theorem W5_arg0 (c : Dev nD) : W5 m c main_arg0 = m ((c : Thread nD τ).loc main_arg0) :=
  (W5_of m c main_arg0 (by decide)).trans <| (W4_keeps m c main_arg0 (by decide)).trans <| (W3_keeps m c main_arg0 (by decide)).trans <|
    (W2_keeps m c main_arg0 (by decide)).trans <| (W1_of m c main_arg0 (by decide)).trans rfl
theorem W5_arg1 (c : Dev nD) : W5 m c main_arg1 = m ((c : Thread nD τ).loc main_arg1) :=
  (W5_of m c main_arg1 (by decide)).trans <| (W4_keeps m c main_arg1 (by decide)).trans <| (W3_keeps m c main_arg1 (by decide)).trans <|
    (W2_keeps m c main_arg1 (by decide)).trans <| (W1_of m c main_arg1 (by decide)).trans rfl

/-! ## The segments -/

/-- The three kernels' proof data. -/
def pdats : (p : Fin 3) → (c : Dev nD) → Dat τ (Elt F) Unit ℕ UU ℕ (cfgs p) c
  | ⟨0, _⟩, c => dat0 m c
  | ⟨1, _⟩, c => dat1 m c
  | ⟨2, _⟩, c => dat2 m c

/-- Beside the buffers a core carries that it owes nothing. -/
abbrev E (c : Dev nD) : sProp 𝕄 := iprop(∃ W, owes (c : Thread nD τ) (0 : CellTallies nD τ sig Unit) W)

/-- The levels: every staging cell has the one level, and nothing is owed. -/
theorem cut (p : Fin 3) : Pipeline.LevelCut (pcfgs (F := F)) adm () L lv p (fun _ => 0) (fun _ => 0) where
  hι c w s := by simp [L]
  hιb c w s := le_refl _
  hD c g i h := absurd h (by simp)

theorem unscoped0 : ∀ w : Fin 6, (Pipeline.arrRef spec0 w).isScoped = false := by decide
theorem unscoped1 : ∀ w : Fin 3, (Pipeline.arrRef spec1 w).isScoped = false := by decide
theorem unscoped2 : ∀ w : Fin 7, (Pipeline.arrRef spec2 w).isScoped = false := by decide
/-- The second kernel's invariant is its scoped buffers alone. -/
theorem enter1 (c : Dev nD) : iprop(Pipeline.scopedRest (Ix := Unit) (Name := ℕ) (U := UU) (Lvl := ℕ) (Val := Elt F) spec1 c ∗ BI.emp) ⊢ (dat1 m c).Φ 0 := by
  rw [show (dat1 m c).Φ 0 = Pipeline.scopedRest spec1 c from rfl]; exact Laws.sep_emp.1
theorem leave1 (c : Dev nD) : (dat1 m c).Φ (Fin.last cfg1.N) ⊢ iprop(Pipeline.scopedRest (Ix := Unit) (Name := ℕ) (U := UU) (Lvl := ℕ) (Val := Elt F) spec1 c ∗ BI.emp) := by
  rw [show (dat1 m c).Φ (Fin.last cfg1.N) = Pipeline.scopedRest spec1 c from rfl]; exact Laws.sep_emp.2

/-- The first kernel's record: entered from the buffers held, left with them held at the next valuation. -/
def R0 : RegionSeg (pcfgs (F := F)) adm (pdats m) () defs₀ Variants.none L lv 0 :=
  RegionSeg.ofHeldIn _ _ _ _ _ _ _ _ 0 (fun _ => 0) (Pipeline.ucRefs τ sig) (fun _ => BI.emp) (fun _ => BI.emp) launch0.toP rfl
    (fun c => (Region0.body_obligation (fun c b => W1 m c b) c).loose) (fun _ _ => rfl) (fun _ => rfl) (fun c w => by show (dat0 m c).share w = _; unfold Dat.share; split <;> rfl)
    (fun c => Laws.sep_emp.1.trans (Region0.enter (fun c b => W1 m c b) c)) (fun c => (Region0.leave (fun c b => W1 m c b) c).trans Laws.sep_emp.2) (fun _ => 0) (cut 0) (fun _ => BI.emp) (W1 m)
    (fun c w => A0_eq m c w)
theorem R0_pre (c : Dev nD) : iprop(StableHlo.held (c : Thread nD τ) (Pipeline.ucRefs τ sig) (W1 m c) ∗ E c) ⊢ (R0 m).pre c :=
  (show (_ : sProp 𝕄) ⊢ _ by
    iintro ⟨H, HE⟩
    isplitl [H]; · iexact H
    isplitl [HE]; · iexact HE
    isplitl []; · iempintro
    iempintro).trans (RegionSeg.ofHeldIn_pre (Pipeline.arrRefs_sub_ucRefs _ unscoped0) c)
theorem R0_post (c : Dev nD) : (R0 m).post c ⊢ iprop(StableHlo.held (c : Thread nD τ) (Pipeline.ucRefs τ sig) (W2 m c) ∗ E c) :=
  (RegionSeg.ofHeldIn_post (Pipeline.arrRefs_sub_ucRefs _ unscoped0) c).trans (show (_ : sProp 𝕄) ⊢ _ by
    iintro ⟨H, HE, -, -⟩
    isplitl [H]; · iexact H
    iexact HE)

/-- The second kernel's record: entered from the buffers held, left with them held at the next valuation. -/
def R1 : RegionSeg (pcfgs (F := F)) adm (pdats m) () defs₀ Variants.none L lv 1 :=
  RegionSeg.ofHeldIn _ _ _ _ _ _ _ _ 1 (fun _ => 0) (Pipeline.ucRefs τ sig) (fun _ => BI.emp) (fun _ => BI.emp) launch1.toP rfl
    (fun c => (Region1.body_obligation (fun c b => W2 m c b) c).loose) (fun _ _ => rfl) (fun _ => rfl) (fun c w => by show (dat1 m c).share w = _; unfold Dat.share; split <;> rfl)
    (enter1 m) (leave1 m) (fun _ => 0) (cut 1) (fun _ => BI.emp) (W2 m)
    (fun c w => A1_eq m c w)
theorem R1_pre (c : Dev nD) : iprop(StableHlo.held (c : Thread nD τ) (Pipeline.ucRefs τ sig) (W2 m c) ∗ E c) ⊢ (R1 m).pre c :=
  (show (_ : sProp 𝕄) ⊢ _ by
    iintro ⟨H, HE⟩
    isplitl [H]; · iexact H
    isplitl [HE]; · iexact HE
    isplitl []; · iempintro
    iempintro).trans (RegionSeg.ofHeldIn_pre (Pipeline.arrRefs_sub_ucRefs _ unscoped1) c)
theorem R1_post (c : Dev nD) : (R1 m).post c ⊢ iprop(StableHlo.held (c : Thread nD τ) (Pipeline.ucRefs τ sig) (W3 m c) ∗ E c) :=
  (RegionSeg.ofHeldIn_post (Pipeline.arrRefs_sub_ucRefs _ unscoped1) c).trans (show (_ : sProp 𝕄) ⊢ _ by
    iintro ⟨H, HE, -, -⟩
    isplitl [H]; · iexact H
    iexact HE)

/-- The third kernel's record: entered from the buffers held, left with them held at the next valuation. -/
def R2 : RegionSeg (pcfgs (F := F)) adm (pdats m) () defs₀ Variants.none L lv 2 :=
  RegionSeg.ofHeldIn _ _ _ _ _ _ _ _ 2 (fun _ => 0) (Pipeline.ucRefs τ sig) (fun _ => BI.emp) (fun _ => BI.emp) launch2.toP rfl
    (fun c => (Region2.body_obligation (fun c b => W3 m c b) c).loose) (fun _ _ => rfl) (fun _ => rfl) (fun c w => by show (dat2 m c).share w = _; unfold Dat.share; split <;> rfl)
    (fun c => Laws.sep_emp.1.trans (Region2.enter (fun c b => W3 m c b) c)) (fun c => (Region2.leave (fun c b => W3 m c b) c).trans Laws.sep_emp.2) (fun _ => 0) (cut 2) (fun _ => BI.emp) (W3 m)
    (fun c w => A2_eq m c w)
theorem R2_pre (c : Dev nD) : iprop(StableHlo.held (c : Thread nD τ) (Pipeline.ucRefs τ sig) (W3 m c) ∗ E c) ⊢ (R2 m).pre c :=
  (show (_ : sProp 𝕄) ⊢ _ by
    iintro ⟨H, HE⟩
    isplitl [H]; · iexact H
    isplitl [HE]; · iexact HE
    isplitl []; · iempintro
    iempintro).trans (RegionSeg.ofHeldIn_pre (Pipeline.arrRefs_sub_ucRefs _ unscoped2) c)
theorem R2_post (c : Dev nD) : (R2 m).post c ⊢ iprop(StableHlo.held (c : Thread nD τ) (Pipeline.ucRefs τ sig) (W4 m c) ∗ E c) :=
  (RegionSeg.ofHeldIn_post (Pipeline.arrRefs_sub_ucRefs _ unscoped2) c).trans (show (_ : sProp 𝕄) ⊢ _ by
    iintro ⟨H, HE, -, -⟩
    isplitl [H]; · iexact H
    iexact HE)

/-- The host operations before the kernels, -/
def H0 : HostSeg (Ix := Unit) (Name := ℕ) (U := UU) (Lvl := ℕ) (pcfgs (F := F)) defs₀ Variants.none L lv :=
  HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (V0 m) E
/-- and after them. -/
def H3 : HostSeg (Ix := Unit) (Name := ℕ) (U := UU) (Lvl := ℕ) (pcfgs (F := F)) defs₀ Variants.none L lv :=
  HostSeg.ofOps _ _ _ _ _ (Pipeline.ucRefs τ sig) hostOps3
    (fun op h => Pipeline.sub_ucRefs op ((List.forall_iff_forall_mem.mp hostOps3_sub) op h))
    (fun op h => (List.forall_iff_forall_mem.mp hostOps3_fresh) op h) (W4 m) E

/-- The program's items. -/
abbrev items (c : Dev nD) : List (Seg (pcfgs (F := F)) adm (pdats m) () defs₀ Variants.none L lv) :=
  [.host (H0 m), .region (R0 m), .region (R1 m), .region (R2 m), .host (H3 m)]

/-! ## The run -/

/-- The launch's ghost state. -/
abbrev u₀ : UU := (initOf (Pipeline.cells cfgs cellOf_inj) (Pipeline.launchToks cfgs cellOf_inj), 1)

theorem launch_ghost : (ownU u₀ : sProp 𝕄) ⊢ |={Set.univ}=> iprop(BI.own ((embL : Emb (UR sig nD τ) 𝕄) (initOf (Pipeline.cells cfgs cellOf_inj) (Pipeline.launchToks cfgs cellOf_inj)))
    ∗ bigSep Finset.univ (fun _ : Dev nD => (BI.emp : sProp 𝕄))) := by
  iintro Hu
  ihave H := (ownU_pair _ _) $$ Hu
  icases H with ⟨HP, -⟩
  imodintro
  isplitl [HP]; · iexact HP
  iapply (show (BI.emp : sProp 𝕄) ⊢ bigSep Finset.univ (fun _ : Dev nD => (BI.emp : sProp 𝕄)) from by rw [BI.bigSep_emp_const])
  iempintro

/-- What a core has at launch makes the first thread state. -/
theorem launch_core (ρ : Dev nD → PrngReg) (c : Dev nD) : iprop(unscopedBufs c (fun b => m ((c.tc : Thread nD τ).loc b)) ∗ unscopedSems0 c
          ∗ owes (c.tc : Thread nD τ) (0 : CellTallies nD τ sig Unit) ∅ ∗ Pipeline.launchCred (fun _ => 0) c ∗ prngReg c (ρ c) ∗ BI.emp)
        ⊢ (iprop(StableHlo.held (c : Thread nD τ) (Pipeline.ucRefs τ sig) (V0 m c) ∗ E c) : sProp 𝕄) := by
  rw [← Pipeline.unscopedBufs_held (Ix := Unit) (Name := ℕ) (U := UU) (Lvl := ℕ) c (V0 m c)]
  iintro ⟨H, -, HO, -⟩
  isplitl [H]; · iexact H
  iexists _; iexact HO

set_option backward.isDefEq.respectTransparency.types false in
/-- THE RUN. Every weakly fair execution of the program from memory `m` with zero counters terminates; at the end every
    unscoped buffer of every core is at `W5` and every semaphore counter at zero. -/
theorem run (ρ : Dev nD → PrngReg) :
    θ_run defs (onTc (τ := τ) (main (F := F))) ⟨m, fun _ => 0, ρ⟩ (fun r => (∀ c : Dev nD, ∀ b : Ref sig .tc, b.isScoped = false →
      r.2.mem ((c.tc : Thread nD τ).loc b) = W5 m c b) ∧ r.2.sem = fun _ => 0) := by
  refine Pipeline.θ_run_regions_kit_dev_sems (pcfgs (F := F)) adm (pdats m) () cellOf_inj (embL : Emb (UR sig nD τ) 𝕄) defs₀ Variants.none L lv m ρ main
    (items m)
    (fun c Q => by
      rewrite [main_chain c, Seg.run_eq_chain,
        show (items m c).map Seg.prog = [
          StableHlo.seq hostOps0,
          Prog.lift (.customCall (Pipeline.entry 0) ()),
          Prog.lift (.customCall (Pipeline.entry 1) ()),
          Prog.lift (.customCall (Pipeline.entry 2) ()),
          StableHlo.seq hostOps3 ] from rfl]
      dsimp (config := { failIfUnchanged := false }) only
      exact .rfl)
    (fun c => by simp only [items, Seg.pipes_host, Seg.pipes_region, Seg.pipes_nil]; decide) (fun _ => 0) (fun g h => by simp [L, h]) (fun _ => BI.emp) u₀ launch_ghost
    (T₀ := fun c => iprop(StableHlo.held (c : Thread nD τ) (Pipeline.ucRefs τ sig) (V0 m c) ∗ E c))
    (Tₙ := fun c => StableHlo.held (c : Thread nD τ) (Pipeline.ucRefs τ sig) (W5 m c))
    (hch := fun c => ⟨.rfl, R0_pre m c, (R0_post m c).trans (R1_pre m c), (R1_post m c).trans (R2_pre m c), R2_post m c, sep_mono .rfl .rfl⟩)
    (hinit := ?_) (QY := fun c s => ∀ b : Ref sig .tc, b.isScoped = false → s.mem ((c.tc : Thread nD τ).loc b) = W5 m c b)
    (hfin := fun c s' => ?_) (hQ := fun _ h hz => ⟨h, funext fun g => hz g (.inr (regions_no_unscoped g.2))⟩)
  · have hsplit : (bigSep Finset.univ fun c : Dev nD => iprop(unscopedBufs c (fun b => m ((c.tc : Thread nD τ).loc b)) ∗ unscopedSems0 c
          ∗ owes (c.tc : Thread nD τ) (0 : CellTallies nD τ sig Unit) ∅ ∗ Pipeline.launchCred (fun _ => 0) c ∗ prngReg c (ρ c) ∗ BI.emp))
        ⊢ (bigSep Finset.univ fun c : Dev nD => iprop(StableHlo.held (c : Thread nD τ) (Pipeline.ucRefs τ sig) (V0 m c) ∗ E c) : sProp 𝕄) :=
      bigSep_mono fun c _ => launch_core m ρ c
    iintro ⟨H, -⟩
    imodintro
    iapply hsplit $$ H
  · unfold StableHlo.held
    iintro ⟨Hh, HSI⟩
    ihave Hr := (pointsTo_read_all (Pipeline.ucRefs τ sig) (fun b => ((c : Thread nD τ).1, b)) (W5 m c) s') $$ [Hh HSI]
    · isplitl [Hh] <;> iassumption
    icases Hr with ⟨%h, HSI⟩
    imodintro
    isplitr
    · ipureintro
      exact fun b hb => h (Proc.devRef .tc b) (Finset.mem_filter.mpr ⟨StableHlo.devRef_mem_tcRefs b, by simpa using hb⟩)
    · iexact HSI

/-- THE FRAME: the arguments end as launched, every counter at zero. -/
theorem frame (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run _ _ _).mono (fun r h => ⟨fun c => ⟨(h.1 c main_arg0 rfl).trans (W5_arg0 m c), (h.1 c main_arg1 rfl).trans (W5_arg1 m c)⟩, h.2⟩) (run m ρ)

end Cert.KernelIdeal.Run

end
-- ==== Proof.V.Scale.lean ====
/-
  A scale as a function of a largest magnitude, in any arithmetic: the exponent is a count of powers of two, and
  the two scales are powers of two again. The first kernel computes this function on arrays of one element, its count
  over 256 lanes of which the last two are masked.
-/
module

public import proofs.«01_k».proof.Proof.PI.Region0
public import Idealize.ShloMosaic.PureOps.Ideal.Laws
public import Idealize.ShloMosaic.PureOps.Reduce
public import Idealize.ShloMosaic.Lib.ValueIdx
public import Idealize.ShloMosaic.Lib.WordCmp
public import Mathlib.Data.BitVec

@[expose] public section

set_option maxRecDepth 16384

noncomputable section

namespace Cert.Value

open Idealize.ShloMosaic Idealize.ShloMosaic.ValueIdx

variable {F : FTy → Type} [FloatOps F]

/-! ## The function -/

/-- The power of two at position `k`: the f32 number whose exponent field is `k + 1`. -/
def power (F : FTy → Type) [FloatOps F] (k : ℕ) : F .f32 := FloatOps.ofBits (F := F) .f32 (IntOp.shli .vector (IntOp.addi (BitVec.ofNat 32 k) 1#32) 23#32)

/-- Whether the power of two at position `k` is at most `x`, as a word. -/
def below (x : F .f32) (k : ℕ) : BitVec 32 := BitVec.setWidth 32 (FloatOps.cmpf (F := F) (φ := .f32) .ole (power F k) x)

/-- How many of the 254 powers of two are at most `x`. -/
def count (x : F .f32) : BitVec 32 := ∑ k : Fin 254, below x k.val

/-- The exponent of the scale of values of largest magnitude `a`, for a format whose largest value's inverse is `q`. -/
def expo (q a : F .f32) : BitVec 32 :=
  Scalar.select (FloatOps.cmpf (F := F) (φ := .f32) .oeq a (FloatOps.ofBits (F := F) .f32 0x00000000#32)) 0#32
    (Scalar.select (IntOp.ori (IntOp.cmpi .eq (count (FloatOps.mulf (F := F) (φ := .f32) a q)) 0#32)
        (FloatOps.cmpf (F := F) (φ := .f32) .oeq (FloatOps.mulf (F := F) (φ := .f32) a q) (FloatOps.ofBits (F := F) .f32 0x7F800000#32)))
      0#32 (IntOp.subi (count (FloatOps.mulf (F := F) (φ := .f32) a q)) 126#32))

/-- The power of two of exponent `e`. -/
def twoTo (F : FTy → Type) [FloatOps F] (e : BitVec 32) : F .f32 :=
  FloatOps.ofBits (F := F) .f32 (IntOp.shli .vector (IntOp.minsi 255#32 (IntOp.maxsi 0#32 (IntOp.addi e 127#32))) 23#32)

/-- The inverses of the two formats' largest values. -/
def invE5m2 (F : FTy → Type) [FloatOps F] : F .f32 := FloatOps.ofBits (F := F) .f32 0x37924925#32
def invE4m3 (F : FTy → Type) [FloatOps F] : F .f32 := FloatOps.ofBits (F := F) .f32 0x3B124925#32

/-! ## A sum and a fold over every index -/

/-- A fold of word addition from zero is the sum. -/
theorem fold_addi {ι : Type} [DecidableEq ι] (S : Finset ι) (x : ι → BitVec 32) : S.fold IntOp.addi 0#32 x = ∑ i ∈ S, x i := by
  induction S using Finset.cons_induction with
  | empty => rfl
  | cons a S ha ih => rw [Finset.fold_cons, Finset.sum_cons, ih]; rfl

end Cert.Value

namespace Cert.KernelIdeal.Scale

open Cert.KernelIdeal Cert.KernelIdeal.Gen Cert.Value
open Idealize.ShloMosaic Idealize.ShloMosaic.ValueIdx

variable {F : FTy → Type} [FloatOps F]

/-- The kernel's count over the 256 lanes is the count over the 254 that are not masked. -/
theorem lanes_count (src : IVec S1x256 32) (x : F .f32)
    (hs : ∀ k : Fin 256, src (ix2 0 k) = BitVec.setWidth 32 (IntOp.andi (IntOp.cmpi .slt (BitVec.ofNat 32 k.val) 254#32)
      (FloatOps.cmpf (F := F) (φ := .f32) .ole (power F k.val) x))) :
    extractAt ![0, 0, 0] (shapeCast S1x1x1 (multiReductionI .add [1, 2] S1 (shapeCast S1x1x256 src shapeCasts_S1x256_S1x1x256) 0#32
      reduces_S1x1x256_S1 rfl) shapeCasts_S1_S1x1x1) inpos_S1x1x1_p0_0_0 = Value.count x := by
  show reduceFold reduces_S1x1x256_S1 IntOp.addi 0#32 _ _ = _
  rw [reduceFold_eq_fold, fold_addi, Finset.filter_true_of_mem (by intro i _; funext b; fin_cases b; exact Subsingleton.elim (α := Fin 1) _ _)]
  show ∑ i, src (Shape.reshapeEquiv shapeCasts_S1x256_S1x1x256 i) = _
  rw [Equiv.sum_comp (Shape.reshapeEquiv shapeCasts_S1x256_S1x1x256) src, sum_idx2 (n0 := 1) (n1 := 256) src]
  simp only [Fin.sum_univ_one, hs]
  rw [Fin.sum_univ_castSucc, Fin.sum_univ_castSucc]
  have h255 : IntOp.cmpi .slt (BitVec.ofNat 32 (Fin.last 255).val) 254#32 = 0#1 := by decide
  have h254 : IntOp.cmpi .slt (BitVec.ofNat 32 (Fin.last 254).castSucc.val) 254#32 = 0#1 := by decide
  have hk : ∀ k : Fin 254, IntOp.cmpi .slt (BitVec.ofNat 32 k.castSucc.castSucc.val) 254#32 = 1#1 := by decide
  have h0 : ∀ b : BitVec 1, BitVec.setWidth 32 (IntOp.andi 0#1 b) = 0#32 := by decide
  have h1 : ∀ b : BitVec 1, IntOp.andi 1#1 b = b := by decide
  rw [h255, h254, h0, h0]
  simp only [hk, h1]
  unfold Value.count below
  rw [show ∀ y : BitVec 32, y + 0#32 + 0#32 = y from fun y => by simp]
  rfl

/-- The lanes of the count at the one number of `v`, as the kernel writes them. -/
def lanes (v : FVec F S1x1 .f32) : IVec S1x256 32 :=
  extui 32 (andi (cmpi .slt (iota .tc S1x256 32 [1] iota_S1x256_d1_w32) (broadcast S1x256 254#32))
    (cmpf .ole (bitcastToFloat .f32 (shli (addi (iota .tc S1x256 32 [1] iota_S1x256_d1_w32) (broadcast S1x256 1#32)) (broadcast S1x256 23#32)))
      (broadcastTo S1x256 v broadcasts_S1x1_S1x256))) natLt_1_32

/-- The kernel's count at the one number of `v`. -/
def laneCount (v : FVec F S1x1 .f32) : BitVec 32 :=
  extractAt ![0, 0, 0] (shapeCast S1x1x1 (multiReductionI .add [1, 2] S1 (shapeCast S1x1x256 (lanes v) shapeCasts_S1x256_S1x1x256) 0#32
    reduces_S1x1x256_S1 rfl) shapeCasts_S1_S1x1x1) inpos_S1x1x1_p0_0_0

theorem laneCount_eq (v : FVec F S1x1 .f32) : laneCount v = Value.count (v (ix2 0 0)) := by
  refine lanes_count (lanes v) (v (ix2 0 0)) fun k => ?_
  have hi : iota .tc S1x256 32 [1] iota_S1x256_d1_w32 (ix2 0 k) = BitVec.ofNat 32 k.val := by
    rw [WordCmp.iota_at]; simp [List.foldl_cons, List.foldl_nil, ix2]
  have hb : broadcastTo S1x256 v broadcasts_S1x1_S1x256 (ix2 0 k) = v (ix2 0 0) := by
    refine congrArg v (funext fun a => ?_)
    fin_cases a <;> exact Subsingleton.elim (α := Fin 1) _ _
  show BitVec.setWidth 32 (IntOp.andi (IntOp.cmpi .slt (iota .tc S1x256 32 [1] iota_S1x256_d1_w32 (ix2 0 k)) 254#32)
      (FloatOps.cmpf (F := F) (φ := .f32) .ole (FloatOps.ofBits (F := F) .f32
        (IntOp.shli .vector (IntOp.addi (iota .tc S1x256 32 [1] iota_S1x256_d1_w32 (ix2 0 k)) 1#32) 23#32))
        (broadcastTo S1x256 v broadcasts_S1x1_S1x256 (ix2 0 k)))) = _
  rw [hi, hb]
  rfl

/-- The largest magnitude the kernel reduces its two running maxima to. -/
def amaxDy (A : Vec F S16x8192 .bf16) : F .f32 := k0_pay7 (F := F) A (ix2 0 0)
def amaxW (B : Vec F S8x8192 .f32) : F .f32 := k0_pay8 (F := F) B (ix2 0 0)

/-- The exponent as the kernel writes it: arrays of one number. -/
def expoVec (a v : FVec F S1x1 .f32) : IVec S1x1 32 :=
  select (cmpf .oeq a (broadcast S1x1 (Scalar.ofBits (F := F) .f32 0x00000000#32))) (broadcast S1x1 0#32)
    (select (ori (cmpi .eq (broadcast S1x1 (laneCount v)) (broadcast S1x1 0#32)) (cmpf .oeq v (broadcast S1x1 (Scalar.ofBits (F := F) .f32 0x7F800000#32))))
      (broadcast S1x1 0#32) (subi (broadcast S1x1 (laneCount v)) (broadcast S1x1 126#32)))

theorem expoVec_apply (a v : FVec F S1x1 .f32) (q : F .f32) (hv : v (ix2 0 0) = FloatOps.mulf (F := F) (φ := .f32) (a (ix2 0 0)) q) :
    expoVec a v (ix2 0 0) = expo q (a (ix2 0 0)) := by
  unfold expo expoVec
  rw [← hv, ← laneCount_eq]
  generalize laneCount v = n
  rfl

theorem pay11_eq (A : Vec F S16x8192 .bf16) : k0_pay11 (k0_pay9 (F := F) A) (k0_pay10 (F := F) A) 0#32
    = expoVec (k0_pay7 (F := F) A) (mulf (k0_pay7 (F := F) A) (broadcast S1x1 (Scalar.ofBits (F := F) .f32 0x37924925#32))) := rfl

theorem pay18_eq (v : FVec F S1x1 .f32) : k0_pay18 (F := F) v (k0_pay14 v) (k0_pay15 v) (k0_pay16 v) k0_pay17
    = expoVec v (mulf v (broadcast S1x1 (Scalar.ofBits (F := F) .f32 0x3B124925#32))) := rfl

theorem dyScale_eq (A : Vec F S16x8192 .bf16) : Region0.dyScale (F := F) A = twoTo F (expo (invE5m2 F) (amaxDy A)) := by
  unfold amaxDy
  rw [← expoVec_apply (k0_pay7 (F := F) A) (mulf (k0_pay7 (F := F) A) (broadcast S1x1 (Scalar.ofBits (F := F) .f32 0x37924925#32))) (invE5m2 F) rfl, ← pay11_eq]
  rfl

theorem dyInv_eq (A : Vec F S16x8192 .bf16) : Region0.dyInv (F := F) A = twoTo F (-expo (invE5m2 F) (amaxDy A)) := by
  unfold amaxDy
  rw [← BitVec.zero_sub, ← expoVec_apply (k0_pay7 (F := F) A) (mulf (k0_pay7 (F := F) A) (broadcast S1x1 (Scalar.ofBits (F := F) .f32 0x37924925#32))) (invE5m2 F) rfl, ← pay11_eq]
  rfl

theorem wScale_eq (B : Vec F S8x8192 .f32) : Region0.wScale (F := F) B = twoTo F (expo (invE4m3 F) (amaxW B)) := by
  unfold amaxW
  rw [← expoVec_apply (k0_pay8 (F := F) B) (mulf (k0_pay8 (F := F) B) (broadcast S1x1 (Scalar.ofBits (F := F) .f32 0x3B124925#32))) (invE4m3 F) rfl, ← pay18_eq]
  rfl

theorem wInv_eq (B : Vec F S8x8192 .f32) : Region0.wInv (F := F) B = twoTo F (-expo (invE4m3 F) (amaxW B)) := by
  unfold amaxW
  rw [← BitVec.zero_sub, ← expoVec_apply (k0_pay8 (F := F) B) (mulf (k0_pay8 (F := F) B) (broadcast S1x1 (Scalar.ofBits (F := F) .f32 0x3B124925#32))) (invE4m3 F) rfl, ← pay18_eq]
  rfl

end Cert.KernelIdeal.Scale

end
-- ==== Proof.V.Index.lean ====
/-
  Where each window's block lies at each point: the block's coordinates in its array, from the point's number.
-/
module

public import proofs.«01_k».proof.Proof.V.Scale
public import proofs.«01_k».proof.Proof.PI.Region1
public import proofs.«01_k».proof.Proof.PI.Region2

@[expose] public section

noncomputable section

namespace Cert.KernelIdeal.Index

open Cert.KernelIdeal Cert.KernelIdeal.Gen
open Idealize.ShloMosaic Idealize.ShloMosaic.ValueIdx

/-- The first kernel: the blocks are numbered as the points, each the full width. -/
theorem at0_0 : ∀ t : Fin cfg0.N, win0_0.index t 0 = t.val ∧ win0_0.index t 1 = 0 := by decide +kernel
theorem at0_1 : ∀ t : Fin cfg0.N, win0_1.index t 0 = t.val ∧ win0_1.index t 1 = 0 := by decide +kernel

/-- The second kernel: likewise, its result at the same place as its operand. -/
theorem at1_1 : ∀ t : Fin cfg1.N, win1_1.index t 0 = t.val ∧ win1_1.index t 1 = 0 := by decide +kernel
theorem at1_2 : ∀ t : Fin cfg1.N, win1_2.index t 0 = t.val ∧ win1_2.index t 1 = 0 := by decide +kernel

/-- The third kernel: the chunk of the gradient, and of its codes, is the point's number, capped; -/
theorem at2_3 : ∀ t : Fin cfg2.N, win2_3.index t 0 = min t.val 191 ∧ win2_3.index t 1 = 0 := by decide +kernel
theorem at2_6 : ∀ t : Fin cfg2.N, win2_6.index t 0 = min t.val 191 ∧ win2_6.index t 1 = 0 := by decide +kernel
/-- the block of weight codes is the remainder by 8, and the block of the product is the quotient less one, at the
    remainder, from point 8 on. -/
theorem at2_4 : ∀ t : Fin cfg2.N, 8 ≤ t.val → win2_4.index t 0 = t.val % 8 ∧ win2_4.index t 1 = 0 := by decide +kernel
theorem at2_5 : ∀ t : Fin cfg2.N, 8 ≤ t.val → win2_5.index t 0 = t.val / 8 - 1 ∧ win2_5.index t 1 = 0 ∧ win2_5.index t 2 = t.val % 8 := by decide +kernel

end Cert.KernelIdeal.Index

end
-- ==== Proof.V.Amax.lean ====
/-
  The largest magnitude, over the extended reals. A maximum is determined by its upper bounds, so the kernel's running
  maxima over blocks and the host's one maximum over the array are the same number once they have the same upper bounds:
  the numbers above every magnitude.
-/
module

public import proofs.«01_k».proof.Proof.V.Index

@[expose] public section

set_option maxRecDepth 16384

noncomputable section

namespace Cert.Value

open Idealize.ShloMosaic Idealize.ShloMosaic.ValueIdx Idealize.ShloMosaic.TcCoe

/-- The magnitude of an extended real. -/
def mag (x : EReal) : EReal := max x (-x)

/-- The number `a` is the largest magnitude of `x`: its upper bounds are the upper bounds of every magnitude. -/
def IsAmax {ι : Type} (a : EReal) (x : ι → EReal) : Prop := ∀ b, a ≤ b ↔ ∀ i, mag (x i) ≤ b

theorem IsAmax.unique {ι : Type} {a a' : EReal} {x : ι → EReal} (h : IsAmax a x) (h' : IsAmax a' x) : a = a' :=
  eq_of_forall_ge_iff fun b => (h b).trans (h' b).symm

/-- Minus infinity, in the two formats the maxima start from. -/
theorem neg_inf_bf16 : Ideal.ofBits .bf16 0xFF80#16 = ⊥ := by simp [Ideal.ofBits, Ideal.ieee]
theorem neg_inf_f32 : Ideal.ofBits .f32 0xFF800000#32 = ⊥ := by simp [Ideal.ofBits, Ideal.ieee]

theorem neutral_f32 : FloatOps.ofBits (F := Ideal) .f32 0xFF800000#32 = ⊥ := neg_inf_f32
theorem neutral_bf16 : FloatOps.ofBits (F := Ideal) .bf16 0xFF80#16 = ⊥ := neg_inf_bf16

/-- A fold of maxima from minus infinity is at most `b` when every term is. -/
theorem fold_le {ι : Type} {φ : FTy} (S : Finset ι) (x : ι → EReal) (a b : EReal) (ha : a = ⊥) :
    S.fold (FloatOps.maximumf (F := Ideal) (φ := φ)) a x ≤ b ↔ ∀ i ∈ S, x i ≤ b := by
  subst ha
  exact (Finset.fold_max_le b).trans (by simp)

/-- A reduction by maximum, all its results together: they are at most `b` when every element is. -/
theorem reduction_le {φ : FTy} {s t : Shape} {axes : List (Fin s.rank)} (src : FVec Ideal s φ) (acc : BitVec φ.bits)
    (h : s.Reduces axes t) (hφ : FKind.Formats φ) (hacc : acc = FKind.maximumf.neutral φ hφ) (ha : FloatOps.ofBits (F := Ideal) φ acc = ⊥) (b : EReal) :
    (∀ j, multiReduction .maximumf axes t src acc h hφ hacc j ≤ b) ↔ ∀ i, src i ≤ b := by
  simp only [multiReduction_maximumf_eq_fold]
  constructor
  · intro H i
    exact (fold_le _ _ _ _ ha).mp (H (h.drop i)) i (by simp)
  · intro H j
    exact (fold_le _ _ _ _ ha).mpr fun i _ => H i

/-- The host's reduction to one number, likewise. -/
theorem host_reduce_amax {φ : FTy} {s t u : Shape} {axes : List (Fin s.rank)} (x : FVec Ideal s φ) (init : FVec Ideal u φ)
    (h : s.ReducesTo axes t) (hu : 0 < u.numel) (j : t.Idx) (ht : ∀ i : t.Idx, i = j) (ha : init (Shape.Idx.first hu) = ⊥) :
    IsAmax (Host.reduce (FloatOps.maximumf (F := Ideal) (φ := φ)) (Host.absf x) init h hu j) x := by
  intro b
  rw [Host.reduce_eq_fold]
  refine (fold_le _ _ _ _ ha).trans ?_
  constructor
  · intro H i; exact H i (by simpa using ht _)
  · intro H i _; exact H i

/-- Every index of a reshaped array names an element, and every element is named. -/
theorem forall_reshape {s t : Shape} (h : s.ShapeCasts t) (p : s.Idx → Prop) : (∀ i : t.Idx, p (Shape.reshapeEquiv h i)) ↔ ∀ i, p i :=
  ⟨fun H i => by have := H ((Shape.reshapeEquiv h).symm i); rwa [Equiv.apply_symm_apply] at this, fun H i => H _⟩

/-- A reduction of the reshaped magnitudes, all its results together. -/
theorem reduction_abs_le {φ : FTy} {s r t : Shape} {axes : List (Fin r.rank)} (x : FVec Ideal s φ) (hc : s.ShapeCasts r) (acc : BitVec φ.bits)
    (h : r.Reduces axes t) (hφ : FKind.Formats φ) (hacc : acc = FKind.maximumf.neutral φ hφ) (ha : FloatOps.ofBits (F := Ideal) φ acc = ⊥) (b : EReal) :
    (∀ j, multiReduction .maximumf axes t (shapeCast r (absf x) hc) acc h hφ hacc j ≤ b) ↔ ∀ p, mag (x p) ≤ b :=
  (reduction_le _ _ _ _ _ ha b).trans (forall_reshape (s := s) hc (fun p => mag (x p) ≤ b))

/-- A reduction of a reshaped array to one number. -/
theorem reduction_one_le {φ : FTy} {s r t : Shape} {axes : List (Fin r.rank)} (x : FVec Ideal s φ) (hc : s.ShapeCasts r) (acc : BitVec φ.bits)
    (h : r.Reduces axes t) (hφ : FKind.Formats φ) (hacc : acc = FKind.maximumf.neutral φ hφ) (ha : FloatOps.ofBits (F := Ideal) φ acc = ⊥) (b : EReal)
    (j : t.Idx) (ht : ∀ i : t.Idx, i = j) :
    multiReduction .maximumf axes t (shapeCast r x hc) acc h hφ hacc j ≤ b ↔ ∀ p, x p ≤ b :=
  ⟨fun H => ((reduction_le _ _ _ _ _ ha b).trans (forall_reshape (s := s) hc (fun p => x p ≤ b))).mp fun i => by rw [ht i]; exact H,
   fun H => ((reduction_le _ _ _ _ _ ha b).trans (forall_reshape (s := s) hc (fun p => x p ≤ b))).mpr H j⟩

end Cert.Value

namespace Cert.KernelIdeal.Amax

open Cert.KernelIdeal Cert.KernelIdeal.Gen Cert.Value Cert.KernelIdeal.Scale
open Idealize.ShloMosaic Idealize.ShloMosaic.ValueIdx Idealize.ShloMosaic.TcCoe

/-! ## One block's maxima -/

theorem pay1_le (x : Vec Ideal S384x8192 .bf16) (b : EReal) : (∀ j, k0_pay1 (F := Ideal) x j ≤ b) ↔ ∀ p, mag (x p) ≤ b := by
  unfold k0_pay1
  rw [shapeCast_self]
  exact reduction_abs_le _ _ _ _ _ _ neutral_bf16 b

theorem pay2_le (x : Vec Ideal S128x8192 .f32) (b : EReal) : (∀ j, k0_pay2 (F := Ideal) x j ≤ b) ↔ ∀ p, mag (x p) ≤ b := by
  unfold k0_pay2
  exact reduction_abs_le _ _ _ _ _ _ neutral_f32 b

theorem S1_one (i : S1.Idx) : i = fun a => ⟨0, by fin_cases a; decide⟩ := funext fun a => by fin_cases a; exact Subsingleton.elim (α := Fin 1) _ _

/-- The one number of an array of one, taken out and spread over an array of one. -/
theorem extract_one {α : Type} (y : S1.Idx → α) : broadcast S1x1 (extractAt ![0, 0, 0] (shapeCast S1x1x1 y shapeCasts_S1_S1x1x1) inpos_S1x1x1_p0_0_0) (ix2 0 0)
    = y (fun a => ⟨0, by fin_cases a; decide⟩) := congrArg y (S1_one _)

/-- The one number a set of maxima is reduced to. -/
theorem amaxDy_eq {F : FTy → Type} [FloatOps F] (A : Vec F S16x8192 .bf16) : amaxDy A
    = multiReduction .maximumf [1, 2] S1 (shapeCast S1x16x8192 (extf .f32 A bitsLt_bf16_f32) shapeCasts_S16x8192_S1x16x8192) 0xFF800000#32 reduces_S1x16x8192_S1 (.inl rfl) rfl
        (fun a => ⟨0, by fin_cases a; decide⟩) := by
  unfold amaxDy k0_pay7
  exact extract_one _

theorem amaxW_eq {F : FTy → Type} [FloatOps F] (B : Vec F S8x8192 .f32) : amaxW B
    = multiReduction .maximumf [1, 2] S1 (shapeCast S1x8x8192 B shapeCasts_S8x8192_S1x8x8192) 0xFF800000#32 reduces_S1x8x8192_S1 (.inl rfl) rfl
        (fun a => ⟨0, by fin_cases a; decide⟩) := by
  unfold amaxW k0_pay8
  exact extract_one _

theorem amaxDy_le (A : Vec Ideal S16x8192 .bf16) (b : EReal) : amaxDy (F := Ideal) A ≤ b ↔ ∀ q, A q ≤ b := by
  rw [amaxDy_eq]
  exact reduction_one_le _ _ _ _ _ _ neutral_f32 b _ S1_one

theorem amaxW_le (B : Vec Ideal S8x8192 .f32) (b : EReal) : amaxW (F := Ideal) B ≤ b ↔ ∀ q, B q ≤ b := by
  rw [amaxW_eq]
  exact reduction_one_le _ _ _ _ _ _ neutral_f32 b _ S1_one

/-! ## The running maxima -/

variable (V : (c : Dev nD) → (b : Ref sig .tc) → Buf (Elt Ideal) ((c : Thread nD τ).loc b))

theorem accDy_le (c : Dev nD) (b : EReal) : ∀ (n : ℕ) (h : n < cfg0.N),
    (∀ q, Region0.accDy V c n h q ≤ b) ↔ ∀ (t : Fin cfg0.N), t.val ≤ n → ∀ p : S384x8192.Idx, mag ((Region0.iblk V c 0 t : Vec Ideal S384x8192 .bf16) p) ≤ b
  | 0, h => by
    have e : Region0.accDy V c 0 h = k0_pay1 (F := Ideal) (Region0.iblk V c 0 ⟨0, h⟩) := by
      show k0_pay3 _ = _; unfold k0_pay3; exact shapeCast_self _ _
    rw [e, pay1_le]
    constructor
    · intro H t ht; rw [show t = ⟨0, h⟩ from Fin.ext (Nat.le_zero.mp ht)]; exact H
    · intro H; exact H ⟨0, h⟩ le_rfl
  | n + 1, h => by
    have e : Region0.accDy V c (n + 1) h = maximumf (Region0.accDy V c n (Nat.lt_of_succ_lt h)) (k0_pay1 (F := Ideal) (Region0.iblk V c 0 ⟨n + 1, h⟩)) := by
      show k0_pay5 _ _ = _; unfold k0_pay5; exact shapeCast_self _ _
    have e' : (∀ q, Region0.accDy V c (n + 1) h q ≤ b) ↔ (∀ q, Region0.accDy V c n (Nat.lt_of_succ_lt h) q ≤ b) ∧ ∀ q, k0_pay1 (F := Ideal) (Region0.iblk V c 0 ⟨n + 1, h⟩) q ≤ b := by
      rw [e, ← forall_and]; exact forall_congr' fun q => max_le_iff
    rw [e', accDy_le c b n, pay1_le]
    constructor
    · rintro ⟨H, H'⟩ t ht
      rcases Nat.lt_or_ge n t.val with hlt | hle
      · rw [show t = ⟨n + 1, h⟩ from Fin.ext (by show t.val = n + 1; omega)]; exact H'
      · exact H t hle
    · intro H; exact ⟨fun t ht => H t (by omega), H ⟨n + 1, h⟩ le_rfl⟩

theorem accW_le (c : Dev nD) (b : EReal) : ∀ (n : ℕ) (h : n < cfg0.N),
    (∀ q, Region0.accW V c n h q ≤ b) ↔ ∀ (t : Fin cfg0.N), t.val ≤ n → ∀ p : S128x8192.Idx, mag ((Region0.iblk V c 1 t : Vec Ideal S128x8192 .f32) p) ≤ b
  | 0, h => by
    have e : Region0.accW V c 0 h = k0_pay2 (F := Ideal) (Region0.iblk V c 1 ⟨0, h⟩) := by
      show k0_pay4 _ = _; unfold k0_pay4; exact shapeCast_self _ _
    rw [e, pay2_le]
    constructor
    · intro H t ht; rw [show t = ⟨0, h⟩ from Fin.ext (Nat.le_zero.mp ht)]; exact H
    · intro H; exact H ⟨0, h⟩ le_rfl
  | n + 1, h => by
    have e : Region0.accW V c (n + 1) h = maximumf (Region0.accW V c n (Nat.lt_of_succ_lt h)) (k0_pay2 (F := Ideal) (Region0.iblk V c 1 ⟨n + 1, h⟩)) := by
      show k0_pay6 _ _ = _; unfold k0_pay6; exact shapeCast_self _ _
    have e' : (∀ q, Region0.accW V c (n + 1) h q ≤ b) ↔ (∀ q, Region0.accW V c n (Nat.lt_of_succ_lt h) q ≤ b) ∧ ∀ q, k0_pay2 (F := Ideal) (Region0.iblk V c 1 ⟨n + 1, h⟩) q ≤ b := by
      rw [e, ← forall_and]; exact forall_congr' fun q => max_le_iff
    rw [e', accW_le c b n, pay2_le]
    constructor
    · rintro ⟨H, H'⟩ t ht
      rcases Nat.lt_or_ge n t.val with hlt | hle
      · rw [show t = ⟨n + 1, h⟩ from Fin.ext (by show t.val = n + 1; omega)]; exact H'
      · exact H t hle
    · intro H; exact ⟨fun t ht => H t (by omega), H ⟨n + 1, h⟩ le_rfl⟩

/-! ## The blocks are the array -/

theorem iblk0_apply (c : Dev nD) (t : Fin cfg0.N) (p : S384x8192.Idx) (i : S24576x8192.Idx) (h0 : (i 0).val = 384 * t.val + (p 0).val) (h1 : (i 1).val = (p 1).val) :
    (Region0.iblk V c 0 t : Vec Ideal S384x8192 .bf16) p = (V c main_v0 : Vec Ideal S24576x8192 .bf16) i := by
  unfold Region0.iblk
  rw [View.read_apply]
  show V c main_v0 _ = V c main_v0 i
  congr 1
  funext a
  apply Fin.ext
  match a with
  | ⟨0, _⟩ => show win0_0.index t 0 * 384 + 1 * (p 0).val = (i 0).val; rw [(Index.at0_0 t).1]; omega
  | ⟨1, _⟩ => show win0_0.index t 1 * 8192 + 1 * (p 1).val = (i 1).val; rw [(Index.at0_0 t).2]; omega

theorem iblk1_apply (c : Dev nD) (t : Fin cfg0.N) (p : S128x8192.Idx) (i : S8192x8192.Idx) (h0 : (i 0).val = 128 * t.val + (p 0).val) (h1 : (i 1).val = (p 1).val) :
    (Region0.iblk V c 1 t : Vec Ideal S128x8192 .f32) p = (V c main_arg1 : Vec Ideal S8192x8192 .f32) i := by
  unfold Region0.iblk
  rw [View.read_apply]
  show V c main_arg1 _ = V c main_arg1 i
  congr 1
  funext a
  apply Fin.ext
  match a with
  | ⟨0, _⟩ => show win0_1.index t 0 * 128 + 1 * (p 0).val = (i 0).val; rw [(Index.at0_1 t).1]; omega
  | ⟨1, _⟩ => show win0_1.index t 1 * 8192 + 1 * (p 1).val = (i 1).val; rw [(Index.at0_1 t).2]; omega

/-- The number the gradient's scales are computed from is its largest magnitude, -/
theorem amax_dy (c : Dev nD) : IsAmax (amaxDy (F := Ideal) (Region0.lastDy V c)) (V c main_v0 : Vec Ideal S24576x8192 .bf16) := by
  intro b
  rw [amaxDy_le, accDy_le]
  constructor
  · intro H i
    have hi : (i 0).val < 24576 := (i 0).isLt
    have e := iblk0_apply V c ⟨(i 0).val / 384, by rw [show cfg0.N = 64 from N_0]; omega⟩ (ix2 ⟨(i 0).val % 384, by omega⟩ (i 1)) i
      (by show _ = 384 * ((i 0).val / 384) + (i 0).val % 384; omega) rfl
    rw [← e]; exact H _ (by show (i 0).val / 384 ≤ 63; omega) _
  · intro H t _ p
    have ht : t.val < 64 := Nat.lt_of_lt_of_eq t.isLt N_0
    have hp : (p 0).val < 384 := (p 0).isLt
    rw [iblk0_apply V c t p (ix2 ⟨384 * t.val + (p 0).val, by omega⟩ (p 1)) rfl rfl]; exact H _

/-- and the weights' likewise. -/
theorem amax_w (c : Dev nD) : IsAmax (amaxW (F := Ideal) (Region0.lastW V c)) (V c main_arg1 : Vec Ideal S8192x8192 .f32) := by
  intro b
  rw [amaxW_le, accW_le]
  constructor
  · intro H i
    have hi : (i 0).val < 8192 := (i 0).isLt
    have e := iblk1_apply V c ⟨(i 0).val / 128, by rw [show cfg0.N = 64 from N_0]; omega⟩ (ix2 ⟨(i 0).val % 128, by omega⟩ (i 1)) i
      (by show _ = 128 * ((i 0).val / 128) + (i 0).val % 128; omega) rfl
    rw [← e]; exact H _ (by show (i 0).val / 128 ≤ 63; omega) _
  · intro H t _ p
    have ht : t.val < 64 := Nat.lt_of_lt_of_eq t.isLt N_0
    have hp : (p 0).val < 128 := (p 0).isLt
    rw [iblk1_apply V c t p (ix2 ⟨128 * t.val + (p 0).val, by omega⟩ (p 1)) rfl rfl]; exact H _

end Cert.KernelIdeal.Amax

end
-- ==== Proof.V.Arrays.lean ====
/-
  What the three kernels leave in their arrays, as functions of the arrays they read: the four scales, the weights'
  codes, the gradient's codes, and the product by blocks.
-/
module

public import proofs.«01_k».proof.Proof.V.Amax
public import Idealize.ShloMosaic.Lib.Pipeline.Value

@[expose] public section

set_option maxRecDepth 16384

noncomputable section

namespace Cert.Value

open Idealize.ShloMosaic Idealize.ShloMosaic.ValueIdx Idealize.ShloMosaic.TcCoe

variable {F : FTy → Type} [FloatOps F]

/-- The code of a number of the gradient at the inverse scale `s`. -/
def codeDy (s : F .f32) (x : F .bf16) : F .fp8e5m2 :=
  FloatOps.truncf .fp8e5m2 (φ := .bf16) (by decide) (FloatOps.minimumf (Scalar.truncf .bf16 (φ := .f32) (by decide) (FloatOps.ofBits (F := F) .f32 0x47600000#32))
    (FloatOps.maximumf (Scalar.truncf .bf16 (φ := .f32) (by decide) (FloatOps.ofBits (F := F) .f32 0xC7600000#32)) (FloatOps.mulf x (Scalar.truncf .bf16 (φ := .f32) (by decide) s))))

/-- The code of a weight at the inverse scale `s`. -/
def codeW (s x : F .f32) : F .fp8e4m3 :=
  FloatOps.truncf .fp8e4m3 (φ := .f32) (by decide) (FloatOps.minimumf (FloatOps.ofBits (F := F) .f32 0x43E00000#32)
    (FloatOps.maximumf (FloatOps.ofBits (F := F) .f32 0xC3E00000#32) (FloatOps.mulf x s)))

end Cert.Value

namespace Cert.KernelIdeal.Arrays

open Cert.KernelIdeal Cert.KernelIdeal.Gen Cert.KernelIdeal.Common Cert.Value
open Idealize.ShloMosaic Idealize.ShloMosaic.ValueIdx Idealize.ShloMosaic.TcCoe
open Idealize.ShloMosaic.Pipeline (Dat)

variable {F : FTy → Type} [FloatOps F]

theorem k1_pay1_apply (x : Vec F S256x8192 .f32) (s : F .f32) (p : S256x8192.Idx) : k1_pay1 x s p = codeW s (x p) := rfl
theorem k2_pay1_apply (x : Vec F S128x8192 .bf16) (s : F .f32) (p : S128x8192.Idx) : k2_pay1 s x p = codeDy s (x p) := by
  unfold k2_pay1; rw [shapeCast_self]; rfl

variable (V : (c : Dev nD) → (b : Ref sig .tc) → Buf (Elt F) ((c : Thread nD τ).loc b)) (c : Dev nD)

/-! ## The scales: one block, one number, written at the last point -/

/-- Offsets of zero and sizes of one contain the one index. -/
theorem whole_one (o z : Fin 2 → ℕ) (i : S1x1.Idx) (ho : ∀ a, o a = 0) (hz : ∀ a, z a = 1) : ∀ a : Fin 2, o a ≤ (i a).val ∧ (i a).val < o a + z a := by
  intro a
  have h := (i a).isLt
  rw [ho, hz]
  fin_cases a <;> exact ⟨Nat.zero_le _, by simpa using h⟩

theorem scale_2 : (Region0.dat V c).arrAt 2 cfg0.N = (fun _ => Region0.dyScale (Region0.lastDy V c) : Vec F S1x1 .f32) :=
  (Region0.dat V c).arrAt_eq_of_cover 2 _ (fun t _ => by show (cfg0.win 2).cut (grid0.coords t) ((Region0.dat V c).after 2 t) = _; rw [Region0.after_2]; rfl)
    fun i => ⟨⟨63, Region0.lt63⟩, (flush0_2 _).mpr rfl, by
      show i ∈ ((View.whole main_v1_0).slice (win0_2.rect ⟨63, Region0.lt63⟩)).set
      rw [View.set_slice_whole, Rect.mem_set_unit]
      exact whole_one _ _ i (by decide +kernel) (by decide +kernel)⟩

theorem scale_3 : (Region0.dat V c).arrAt 3 cfg0.N = (fun _ => Region0.dyInv (Region0.lastDy V c) : Vec F S1x1 .f32) :=
  (Region0.dat V c).arrAt_eq_of_cover 3 _ (fun t _ => by show (cfg0.win 3).cut (grid0.coords t) ((Region0.dat V c).after 3 t) = _; rw [Region0.after_3]; rfl)
    fun i => ⟨⟨63, Region0.lt63⟩, (flush0_3 _).mpr rfl, by
      show i ∈ ((View.whole main_v1_1).slice (win0_3.rect ⟨63, Region0.lt63⟩)).set
      rw [View.set_slice_whole, Rect.mem_set_unit]
      exact whole_one _ _ i (by decide +kernel) (by decide +kernel)⟩

theorem scale_4 : (Region0.dat V c).arrAt 4 cfg0.N = (fun _ => Region0.wScale (Region0.lastW V c) : Vec F S1x1 .f32) :=
  (Region0.dat V c).arrAt_eq_of_cover 4 _ (fun t _ => by show (cfg0.win 4).cut (grid0.coords t) ((Region0.dat V c).after 4 t) = _; rw [Region0.after_4]; rfl)
    fun i => ⟨⟨63, Region0.lt63⟩, (flush0_4 _).mpr rfl, by
      show i ∈ ((View.whole main_v1_2).slice (win0_4.rect ⟨63, Region0.lt63⟩)).set
      rw [View.set_slice_whole, Rect.mem_set_unit]
      exact whole_one _ _ i (by decide +kernel) (by decide +kernel)⟩

theorem scale_5 : (Region0.dat V c).arrAt 5 cfg0.N = (fun _ => Region0.wInv (Region0.lastW V c) : Vec F S1x1 .f32) :=
  (Region0.dat V c).arrAt_eq_of_cover 5 _ (fun t _ => by show (cfg0.win 5).cut (grid0.coords t) ((Region0.dat V c).after 5 t) = _; rw [Region0.after_5]; rfl)
    fun i => ⟨⟨63, Region0.lt63⟩, (flush0_5 _).mpr rfl, by
      show i ∈ ((View.whole main_v1_3).slice (win0_5.rect ⟨63, Region0.lt63⟩)).set
      rw [View.set_slice_whole, Rect.mem_set_unit]
      exact whole_one _ _ i (by decide +kernel) (by decide +kernel)⟩

/-! ## The weights' codes -/

theorem iblk1_0 (t : Fin cfg1.N) : (Region1.iblk V c 0 t : Vec F S1x1 .f32) o11 = (V c main_v1_3 : Vec F S1x1 .f32) o11 := by
  unfold Region1.iblk
  rw [View.read_apply]
  exact congrArg (V c main_v1_3 : Vec F S1x1 .f32) (eq_o11 _)

theorem iblk1_1 (t : Fin cfg1.N) (p : S256x8192.Idx) (i : S8192x8192.Idx) (h0 : (i 0).val = 256 * t.val + (p 0).val) (h1 : (i 1).val = (p 1).val) :
    (Region1.iblk V c 1 t : Vec F S256x8192 .f32) p = (V c main_arg1 : Vec F S8192x8192 .f32) i := by
  unfold Region1.iblk
  rw [View.read_apply]
  refine congrArg (V c main_arg1 : Vec F S8192x8192 .f32) (funext fun a => Fin.ext ?_)
  match a with
  | ⟨0, _⟩ => show win1_1.index t 0 * 256 + 1 * (p 0).val = (i 0).val; rw [(Index.at1_1 t).1]; omega
  | ⟨1, _⟩ => show win1_1.index t 1 * 8192 + 1 * (p 1).val = (i 1).val; rw [(Index.at1_1 t).2]; omega

/-- The second kernel leaves the code of every weight, at the inverse scale it reads. -/
theorem codes_w : (Region1.dat V c).arrAt 2 cfg1.N
    = (fun i => codeW ((V c main_v1_3 : Vec F S1x1 .f32) o11) ((V c main_arg1 : Vec F S8192x8192 .f32) i) : Vec F S8192x8192 .fp8e4m3) :=
  (Region1.dat V c).arrAt_eq_of_cover 2 _ (fun t _ => by
      show (cfg1.win 2).cut (grid1.coords t) ((Region1.dat V c).after 2 t) = _
      rw [Region1.after_2]
      funext p
      rw [View.read_apply]
      show k1_pay1 _ _ p = codeW _ _
      rw [k1_pay1_apply, iblk1_0]
      congr 1)
    fun i => by
      have h0 : (i 0 : ℕ) < 8192 := (i 0).isLt
      have h1 : (i 1 : ℕ) < 8192 := (i 1).isLt
      refine ⟨⟨(i 0).val / 256, by rw [show cfg1.N = 32 from N_1]; omega⟩, flush1_2 _, ?_⟩
      set t : Fin cfg1.N := ⟨(i 0).val / 256, by rw [show cfg1.N = 32 from N_1]; omega⟩
      show i ∈ ((View.whole main_v2).slice (win1_2.rect t)).set
      rw [View.set_slice_whole, Rect.mem_set_unit]
      intro a
      match a with
      | ⟨0, _⟩ => show win1_2.index t 0 * 256 ≤ (i 0 : ℕ) ∧ (i 0 : ℕ) < win1_2.index t 0 * 256 + 256
                  rw [(Index.at1_2 t).1]; show (i 0).val / 256 * 256 ≤ _ ∧ _ < (i 0).val / 256 * 256 + 256; omega
      | ⟨1, _⟩ => show win1_2.index t 1 * 8192 ≤ (i 1 : ℕ) ∧ (i 1 : ℕ) < win1_2.index t 1 * 8192 + 8192
                  rw [(Index.at1_2 t).2]; omega

/-! ## The gradient's codes -/

theorem iblk2_0 (t : Fin cfg2.N) : (Region2.iblk V c 0 t : Vec F S1x1 .f32) o11 = (V c main_v1_1 : Vec F S1x1 .f32) o11 := by
  unfold Region2.iblk
  rw [View.read_apply]
  exact congrArg (V c main_v1_1 : Vec F S1x1 .f32) (eq_o11 _)
theorem iblk2_1 (t : Fin cfg2.N) : (Region2.iblk V c 1 t : Vec F S1x1 .f32) o11 = (V c main_v1_0 : Vec F S1x1 .f32) o11 := by
  unfold Region2.iblk
  rw [View.read_apply]
  exact congrArg (V c main_v1_0 : Vec F S1x1 .f32) (eq_o11 _)
theorem iblk2_2 (t : Fin cfg2.N) : (Region2.iblk V c 2 t : Vec F S1x1 .f32) o11 = (V c main_v1_2 : Vec F S1x1 .f32) o11 := by
  unfold Region2.iblk
  rw [View.read_apply]
  exact congrArg (V c main_v1_2 : Vec F S1x1 .f32) (eq_o11 _)

theorem iblk2_3 (t : Fin cfg2.N) (p : S128x8192.Idx) (i : S24576x8192.Idx) (h0 : (i 0).val = 128 * min t.val 191 + (p 0).val) (h1 : (i 1).val = (p 1).val) :
    (Region2.iblk V c 3 t : Vec F S128x8192 .bf16) p = (V c main_v0 : Vec F S24576x8192 .bf16) i := by
  unfold Region2.iblk
  rw [View.read_apply]
  refine congrArg (V c main_v0 : Vec F S24576x8192 .bf16) (funext fun a => Fin.ext ?_)
  match a with
  | ⟨0, _⟩ => show win2_3.index t 0 * 128 + 1 * (p 0).val = (i 0).val; rw [(Index.at2_3 t).1]; omega
  | ⟨1, _⟩ => show win2_3.index t 1 * 8192 + 1 * (p 1).val = (i 1).val; rw [(Index.at2_3 t).2]; omega

theorem iblk2_4 (t : Fin cfg2.N) (ht : 8 ≤ t.val) (p : S1024x8192.Idx) (i : S8192x8192.Idx) (h0 : (i 0).val = 1024 * (t.val % 8) + (p 0).val) (h1 : (i 1).val = (p 1).val) :
    (Region2.iblk V c 4 t : Vec F S1024x8192 .fp8e4m3) p = (V c main_v2 : Vec F S8192x8192 .fp8e4m3) i := by
  unfold Region2.iblk
  rw [View.read_apply]
  refine congrArg (V c main_v2 : Vec F S8192x8192 .fp8e4m3) (funext fun a => Fin.ext ?_)
  match a with
  | ⟨0, _⟩ => show win2_4.index t 0 * 1024 + 1 * (p 0).val = (i 0).val; rw [(Index.at2_4 t ht).1]; omega
  | ⟨1, _⟩ => show win2_4.index t 1 * 8192 + 1 * (p 1).val = (i 1).val; rw [(Index.at2_4 t ht).2]; omega

/-- The codes of the gradient, as rows of one array. -/
def dyCodes : Vec F S24576x8192 .fp8e5m2 := fun i => codeDy ((V c main_v1_1 : Vec F S1x1 .f32) o11) ((V c main_v0 : Vec F S24576x8192 .bf16) i)

theorem codes_apply (t : Fin cfg2.N) (p : S128x8192.Idx) (i : S24576x8192.Idx) (h0 : (i 0).val = 128 * min t.val 191 + (p 0).val) (h1 : (i 1).val = (p 1).val) :
    Region2.codes V c t p = dyCodes V c i := by
  unfold Region2.codes dyCodes
  rw [k2_pay1_apply, iblk2_0, iblk2_3 V c t p i h0 h1]

/-- The third kernel leaves the code of every number of the gradient, -/
theorem codes_dy : (Region2.dat V c).arrAt 6 cfg2.N = dyCodes V c :=
  (Region2.dat V c).arrAt_eq_of_cover 6 _ (fun t _ => by
      show (cfg2.win 6).cut (grid2.coords t) ((Region2.dat V c).after 6 t) = _
      rw [Region2.after_6]
      funext p
      rw [View.read_apply]
      have hm : (Region2.lastChunk t).val = min t.val 191 := rfl
      refine codes_apply V c (Region2.lastChunk t) p _ ?_ ?_
      · show win2_6.index t 0 * 128 + 1 * (p 0).val = _; rw [(Index.at2_6 t).1, hm]; omega
      · show win2_6.index t 1 * 8192 + 1 * (p 1).val = _; rw [(Index.at2_6 t).2]; omega)
    fun i => by
      have h0 : (i 0 : ℕ) < 24576 := (i 0).isLt
      have h1 : (i 1 : ℕ) < 8192 := (i 1).isLt
      obtain ⟨t, hf, ht⟩ : ∃ t : Fin cfg2.N, (cfg2.win 6).flush t = true ∧ min t.val 191 = (i 0).val / 128 := by
        by_cases hk : (i 0).val / 128 < 191
        · exact ⟨⟨(i 0).val / 128, by rw [show cfg2.N = 200 from N_2]; omega⟩, by rw [Region2.flush6]; simp [hk], by show min ((i 0).val / 128) 191 = _; omega⟩
        · exact ⟨⟨199, by rw [show cfg2.N = 200 from N_2]; decide⟩, by rw [Region2.flush6]; simp, by show min 199 191 = _; omega⟩
      refine ⟨t, hf, ?_⟩
      show i ∈ ((View.whole main_v3_1).slice (win2_6.rect t)).set
      rw [View.set_slice_whole, Rect.mem_set_unit]
      intro a
      match a with
      | ⟨0, _⟩ => show win2_6.index t 0 * 128 ≤ (i 0 : ℕ) ∧ (i 0 : ℕ) < win2_6.index t 0 * 128 + 128
                  rw [(Index.at2_6 t).1, ht]; omega
      | ⟨1, _⟩ => show win2_6.index t 1 * 8192 ≤ (i 1 : ℕ) ∧ (i 1 : ℕ) < win2_6.index t 1 * 8192 + 8192
                  rw [(Index.at2_6 t).2]; omega

/-- The rows of codes the product at grid row `m + 1` is taken of. -/
theorem rows_apply (m : ℕ) (hm : m < 24) (y : S1x1024x8192.Idx) (i : S24576x8192.Idx) (h0 : (i 0).val = 1024 * m + (y 1).val) (h1 : (i 1).val = (y 2).val) :
    Region2.rows V c m y = dyCodes V c i := by
  have hy : (y 1).val < 1024 := (y 1).isLt
  unfold Region2.rows
  refine codes_apply V c _ _ i ?_ h1
  show (i 0).val = 128 * min ((8 * m + (y 1).val / 128) % 200) 191 + (y 1).val % 128
  omega

end Cert.KernelIdeal.Arrays

end
-- ==== Proof.V.Product.lean ====
/-
  The product, over the extended reals: every element is a sum of 8192 products of codes, times the two scales. The
  third kernel's blocks of it are 1024 rows by 1024 columns, each with its whole sum, and the rows of a block are laid
  out as 128 by 8.
-/
module

public import proofs.«01_k».proof.Proof.V.Arrays
public import Idealize.ShloMosaic.Lib.MatmulPlain

@[expose] public section

set_option maxRecDepth 16384

noncomputable section

namespace Cert.Value

open Idealize.ShloMosaic Idealize.ShloMosaic.ValueIdx Idealize.ShloMosaic.TcCoe

/-- The element of the product at row `r` of the gradient's codes and row `n` of the weights' codes, times `s`. -/
def rowProd (d : (⟨2, ![24576, 8192]⟩ : Shape).Idx → EReal) (w : (⟨2, ![8192, 8192]⟩ : Shape).Idx → EReal) (s : EReal) (r : Fin 24576) (n : Fin 8192) : EReal :=
  (∑ k : Fin 8192, d (ix2 r k) * w (ix2 n k)) * s

/-- A product of rows by rows onto zeros is the sum. -/
theorem matmul_rows {M K N : ℕ} {φ₁ φ₂ : FTy} (D : DotDims ⟨2, ![M, K]⟩ ⟨2, ![N, K]⟩ ⟨2, ![M, N]⟩) (hD : D = DotDims.transposedRhs M K N)
    (x : FVec Ideal ⟨2, ![M, K]⟩ φ₁) (y : FVec Ideal ⟨2, ![N, K]⟩ φ₂) (r : Fin M) (n : Fin N) :
    matmul D none x y (constant ⟨2, ![M, N]⟩ .f32 0x00000000#32) (ix2 r n) = ∑ k : Fin K, x (ix2 r k) * y (ix2 n k) := by
  subst hD
  refine (Ideal.matmul_transposedRhs_apply none x y (constant ⟨2, ![M, N]⟩ .f32 0x00000000#32) r n).trans ?_
  show Ideal.ofBits .f32 0x00000000#32 + _ = _
  rw [Ideal.ofBits_zero_f32, zero_add]

end Cert.Value

namespace Cert.KernelIdeal.Product

open Cert.KernelIdeal Cert.KernelIdeal.Gen Cert.KernelIdeal.Common Cert.Value
open Idealize.ShloMosaic Idealize.ShloMosaic.ValueIdx Idealize.ShloMosaic.TcCoe
open Idealize.ShloMosaic.Pipeline (Dat)

/-- A block's element, in any arithmetic. -/
theorem pay3_at {F : FTy → Type} [FloatOps F] (R : Vec F S1x1024x8192 .fp8e5m2) (W : Vec F S1024x8192 .fp8e4m3) (s1 s2 : F .f32) (p : S128x8x1024.Idx)
    (r : Fin 1024) (hr : r.val = 8 * (p 0).val + (p 1).val) :
    k2_pay3 R W s1 s2 p = FloatOps.truncf .bf16 (φ := .f32) (by decide) (FloatOps.mulf (matmul dot_S1024x8192_S1024x8192_S1024x1024_1_1_0_0_n_n none
      (shapeCast S1024x8192 R shapeCasts_S1x1024x8192_S1024x8192) W (constant S1024x1024 .f32 0x00000000#32) (ix2 r (p 2))) (Scalar.mulf s1 s2)) := by
  unfold k2_pay3
  rw [shapeCast_self]
  refine congrArg (FloatOps.truncf .bf16 (φ := .f32) _) ((Idealize.ShloMosaic.shapeCast_apply _ _ p (ix2 r (p 2)) ?_).trans rfl)
  rw [Shape.rowMajor_val_two, Shape.rowMajor_val_three]
  show r.val * 1024 + (p 2).val = ((p 0).val * 8 + (p 1).val) * 1024 + (p 2).val
  omega

variable (V : (c : Dev nD) → (b : Ref sig .tc) → Buf (Elt Ideal) ((c : Thread nD τ).loc b)) (c : Dev nD)

/-- The product's scale: the two scales the third kernel reads. -/
def scale : EReal := @HMul.hMul EReal EReal EReal _ ((V c main_v1_0 : Vec Ideal S1x1 .f32) o11) ((V c main_v1_2 : Vec Ideal S1x1 .f32) o11)

theorem prod_apply (t : Fin cfg2.N) (ht : 8 ≤ t.val) (p : S128x8x1024.Idx) (r : Fin 24576) (n : Fin 8192)
    (hr : r.val = 1024 * (t.val / 8 - 1) + (8 * (p 0).val + (p 1).val)) (hn : n.val = 1024 * (t.val % 8) + (p 2).val) :
    Region2.prod V c t p = rowProd (Arrays.dyCodes V c) (V c main_v2 : Vec Ideal S8192x8192 .fp8e4m3) (scale V c) r n := by
  have hN : t.val < 200 := Nat.lt_of_lt_of_eq t.isLt N_2
  have h0 : (p 0).val < 128 := (p 0).isLt
  have h1 : (p 1).val < 8 := (p 1).isLt
  have h2 : (p 2).val < 1024 := (p 2).isLt
  unfold Region2.prod
  rw [pay3_at _ _ _ _ p ⟨8 * (p 0).val + (p 1).val, by omega⟩ rfl, Arrays.iblk2_1, Arrays.iblk2_2]
  show matmul (F := Ideal) dot_S1024x8192_S1024x8192_S1024x1024_1_1_0_0_n_n none _ _ _ _ * scale V c = _
  unfold rowProd
  refine congrArg (· * scale V c) ((matmul_rows (φ₁ := .fp8e5m2) (φ₂ := .fp8e4m3) dot_S1024x8192_S1024x8192_S1024x1024_1_1_0_0_n_n rfl _ _ _ _).trans ?_)
  refine Finset.sum_congr rfl fun k _ => ?_
  refine congr (congrArg _ ?_) ?_
  · refine (Idealize.ShloMosaic.shapeCast_apply _ _ _ (ix3 (0 : Fin 1) (⟨8 * (p 0).val + (p 1).val, by omega⟩ : Fin 1024) k) ?_).trans ?_
    · rw [Shape.rowMajor_val_two, Shape.rowMajor_val_three]
      show (0 * 1024 + (8 * (p 0).val + (p 1).val)) * 8192 + k.val = (8 * (p 0).val + (p 1).val) * 8192 + k.val
      omega
    · exact Arrays.rows_apply V c (t.val / 8 - 1) (by omega) _ (ix2 r k) hr rfl
  · exact Arrays.iblk2_4 V c t ht (ix2 (p 2) k) (ix2 n k) hn rfl

/-- and every element of the product. -/
theorem product : (Region2.dat V c).arrAt 5 cfg2.N
    = (fun i : S3072x8x8192.Idx => rowProd (Arrays.dyCodes V c) (V c main_v2 : Vec Ideal S8192x8192 .fp8e4m3) (scale V c)
        ⟨8 * (i 0).val + (i 1).val, by have h0 : (i 0).val < 3072 := (i 0).isLt; have h1 : (i 1).val < 8 := (i 1).isLt; omega⟩ (i 2)) :=
  (Region2.dat V c).arrAt_eq_of_cover 5 _ (fun t hf => by
      have ht : 8 ≤ t.val := of_decide_eq_true ((Region2.flush5 t).symm.trans hf)
      show (cfg2.win 5).cut (grid2.coords t) ((Region2.dat V c).after 5 t) = _
      rw [Region2.after_5]
      funext p
      rw [View.read_apply]
      refine prod_apply V c t ht p _ _ ?_ ?_
      · show 8 * (win2_5.index t 0 * 128 + 1 * (p 0).val) + (win2_5.index t 1 * 8 + 1 * (p 1).val) = _
        rw [(Index.at2_5 t ht).1, (Index.at2_5 t ht).2.1]; omega
      · show win2_5.index t 2 * 1024 + 1 * (p 2).val = _
        rw [(Index.at2_5 t ht).2.2]; omega)
    fun i => by
      have h0 : (i 0 : ℕ) < 3072 := (i 0).isLt
      have h1 : (i 1 : ℕ) < 8 := (i 1).isLt
      have h2 : (i 2 : ℕ) < 8192 := (i 2).isLt
      obtain ⟨t, ht, hi, hj⟩ : ∃ t : Fin cfg2.N, 8 ≤ t.val ∧ t.val / 8 - 1 = (i 0).val / 128 ∧ t.val % 8 = (i 2).val / 1024 :=
        ⟨⟨8 * ((i 0).val / 128 + 1) + (i 2).val / 1024, by rw [show cfg2.N = 200 from N_2]; omega⟩, by show 8 ≤ 8 * ((i 0).val / 128 + 1) + (i 2).val / 1024; omega,
          by show (8 * ((i 0).val / 128 + 1) + (i 2).val / 1024) / 8 - 1 = _; omega, by show (8 * ((i 0).val / 128 + 1) + (i 2).val / 1024) % 8 = _; omega⟩
      refine ⟨t, by rw [Region2.flush5]; simpa using ht, ?_⟩
      show i ∈ ((View.whole main_v3_0).slice (win2_5.rect t)).set
      rw [View.set_slice_whole, Rect.mem_set_unit]
      intro a
      match a with
      | ⟨0, _⟩ => show win2_5.index t 0 * 128 ≤ (i 0 : ℕ) ∧ (i 0 : ℕ) < win2_5.index t 0 * 128 + 128
                  rw [(Index.at2_5 t ht).1, hi]; omega
      | ⟨1, _⟩ => show win2_5.index t 1 * 8 ≤ (i 1 : ℕ) ∧ (i 1 : ℕ) < win2_5.index t 1 * 8 + 8
                  rw [(Index.at2_5 t ht).2.1]; omega
      | ⟨2, _⟩ => show win2_5.index t 2 * 1024 ≤ (i 2 : ℕ) ∧ (i 2 : ℕ) < win2_5.index t 2 * 1024 + 1024
                  rw [(Index.at2_5 t ht).2.2, hj]; omega

end Cert.KernelIdeal.Product

end
-- ==== Proof.V.Kernel.lean ====
/-
  The kernel's five results, as functions of its two arguments.
-/
module

public import proofs.«01_k».proof.Proof.V.Product
public import proofs.«01_k».proof.Proof.PI.Run

@[expose] public section

set_option maxRecDepth 16384

noncomputable section

namespace Cert.Value

open Idealize.ShloMosaic Idealize.ShloMosaic.ValueIdx Idealize.ShloMosaic.TcCoe

/-- The four scales, of the two largest magnitudes. -/
def dyScale (a : EReal) : EReal := twoTo Ideal (expo (F := Ideal) (invE5m2 Ideal) a)
def dyInv (a : EReal) : EReal := twoTo Ideal (-expo (F := Ideal) (invE5m2 Ideal) a)
def wScale (b : EReal) : EReal := twoTo Ideal (expo (F := Ideal) (invE4m3 Ideal) b)
def wInv (b : EReal) : EReal := twoTo Ideal (-expo (F := Ideal) (invE4m3 Ideal) b)

/-- The gradient's codes and the weights', element by element. -/
def dyCode (a : EReal) {s : Shape} (x : s.Idx → EReal) : s.Idx → EReal := fun i => codeDy (F := Ideal) (dyInv a) (x i)
def wCode (b : EReal) {s : Shape} (y : s.Idx → EReal) : s.Idx → EReal := fun i => codeW (F := Ideal) (wInv b) (y i)

/-- The product, element by element: at `(i, r, n)`, of row `3072 i + r` of the gradient. -/
def dx (a b : EReal) (x : (⟨3, ![8, 3072, 8192]⟩ : Shape).Idx → EReal) (y : (⟨2, ![8192, 8192]⟩ : Shape).Idx → EReal) : (⟨3, ![8, 3072, 8192]⟩ : Shape).Idx → EReal := fun i =>
  (∑ k : Fin 8192, dyCode a x (ix3 (i 0) (i 1) k) * wCode b y (ix2 (i 2) k)) * (dyScale a * wScale b)

end Cert.Value

namespace Cert.KernelIdeal.Results

open Cert.KernelIdeal Cert.KernelIdeal.Gen Cert.KernelIdeal.Common Cert.Value Cert.KernelIdeal.Run Cert.KernelIdeal.Scale
open Idealize.ShloMosaic Idealize.ShloMosaic.ValueIdx Idealize.ShloMosaic.TcCoe
open Idealize.ShloMosaic.Pipeline (Dat)

variable (m : (ℓ : Loc nD τ sig) → Buf (Elt Ideal) ℓ) (c : Dev nD)

abbrev x : Vec Ideal S8x3072x8192 .bf16 := m ((c : Thread nD τ).loc main_arg0)
abbrev y : Vec Ideal S8192x8192 .f32 := m ((c : Thread nD τ).loc main_arg1)

/-- The two largest magnitudes. -/
def a : EReal := amaxDy (F := Ideal) (Region0.lastDy (fun c b => W1 m c b) c)
def b : EReal := amaxW (F := Ideal) (Region0.lastW (fun c b => W1 m c b) c)

/-! ## The buffers between the kernels -/

theorem W1_v0 : (W1 m c main_v0 : Vec Ideal S24576x8192 .bf16) = shapeCast S24576x8192 (x m c) shapeCasts_S8x3072x8192_S24576x8192 := by
  unfold W1
  after_results
  rfl

theorem W1_arg1 : (W1 m c main_arg1 : Vec Ideal S8192x8192 .f32) = y m c := (W1_of m c main_arg1 (by decide)).trans rfl

theorem a_amax : IsAmax (a m c) (x m c) := by
  intro t
  refine (Amax.amax_dy (fun c b => W1 m c b) c t).trans ?_
  rw [W1_v0]
  exact forall_reshape (s := S8x3072x8192) shapeCasts_S8x3072x8192_S24576x8192 (fun i => mag (x m c i) ≤ t)

theorem b_amax : IsAmax (b m c) (y m c) := by
  intro t
  refine (Amax.amax_w (fun c b => W1 m c b) c t).trans ?_
  rw [W1_arg1]
  exact Iff.rfl

theorem W2_v1_0 : (W2 m c main_v1_0 : Vec Ideal S1x1 .f32) = fun _ => dyScale (a m c) :=
  (W2_arr m c 2).trans ((Arrays.scale_2 (fun c b => W1 m c b) c).trans (funext fun _ => dyScale_eq _))
theorem W2_v1_1 : (W2 m c main_v1_1 : Vec Ideal S1x1 .f32) = fun _ => dyInv (a m c) :=
  (W2_arr m c 3).trans ((Arrays.scale_3 (fun c b => W1 m c b) c).trans (funext fun _ => dyInv_eq _))
theorem W2_v1_2 : (W2 m c main_v1_2 : Vec Ideal S1x1 .f32) = fun _ => wScale (b m c) :=
  (W2_arr m c 4).trans ((Arrays.scale_4 (fun c b => W1 m c b) c).trans (funext fun _ => wScale_eq _))
theorem W2_v1_3 : (W2 m c main_v1_3 : Vec Ideal S1x1 .f32) = fun _ => wInv (b m c) :=
  (W2_arr m c 5).trans ((Arrays.scale_5 (fun c b => W1 m c b) c).trans (funext fun _ => wInv_eq _))

theorem W3_v2 : (W3 m c main_v2 : Vec Ideal S8192x8192 .fp8e4m3) = wCode (b m c) (y m c) := by
  refine (W3_arr m c 2).trans ((Arrays.codes_w (fun c b => W2 m c b) c).trans ?_)
  have h1 : (W2 m c main_arg1 : Vec Ideal S8192x8192 .f32) = y m c := (W2_keeps m c main_arg1 (by decide)).trans (W1_arg1 m c)
  funext i
  rw [W2_v1_3, h1]
  rfl

theorem W3_v1_0 : (W3 m c main_v1_0 : Vec Ideal S1x1 .f32) = fun _ => dyScale (a m c) := (W3_keeps m c main_v1_0 (by decide)).trans (W2_v1_0 m c)
theorem W3_v1_1 : (W3 m c main_v1_1 : Vec Ideal S1x1 .f32) = fun _ => dyInv (a m c) := (W3_keeps m c main_v1_1 (by decide)).trans (W2_v1_1 m c)
theorem W3_v1_2 : (W3 m c main_v1_2 : Vec Ideal S1x1 .f32) = fun _ => wScale (b m c) := (W3_keeps m c main_v1_2 (by decide)).trans (W2_v1_2 m c)
theorem W3_v0 : (W3 m c main_v0 : Vec Ideal S24576x8192 .bf16) = shapeCast S24576x8192 (x m c) shapeCasts_S8x3072x8192_S24576x8192 :=
  (W3_keeps m c main_v0 (by decide)).trans ((W2_keeps m c main_v0 (by decide)).trans (W1_v0 m c))

theorem dyCodes_eq : Arrays.dyCodes (fun c b => W3 m c b) c = dyCode (a m c) (shapeCast S24576x8192 (x m c) shapeCasts_S8x3072x8192_S24576x8192) := by
  funext i
  unfold Arrays.dyCodes
  show codeDy (F := Ideal) ((W3 m c main_v1_1 : Vec Ideal S1x1 .f32) o11) ((W3 m c main_v0 : Vec Ideal S24576x8192 .bf16) i) = _
  rw [W3_v1_1, W3_v0]
  rfl

/-! ## The results -/

theorem v6 : (W5 m c main_v6 : Vec Ideal S_ .f32) = fun _ => dyScale (a m c) := by
  have h : (W5 m c main_v6 : Vec Ideal S_ .f32) = shapeCast S_ (W4 m c main_v1_0 : Vec Ideal S1x1 .f32) shapeCasts_S1x1_S_ := by unfold W5; after_results; rfl
  rw [h, show (W4 m c main_v1_0 : Vec Ideal S1x1 .f32) = _ from (W4_keeps m c main_v1_0 (by decide)).trans (W3_v1_0 m c)]
  rfl

theorem v7 : (W5 m c main_v7 : Vec Ideal S_ .f32) = fun _ => wScale (b m c) := by
  have h : (W5 m c main_v7 : Vec Ideal S_ .f32) = shapeCast S_ (W4 m c main_v1_2 : Vec Ideal S1x1 .f32) shapeCasts_S1x1_S_ := by unfold W5; after_results; rfl
  rw [h, show (W4 m c main_v1_2 : Vec Ideal S1x1 .f32) = _ from (W4_keeps m c main_v1_2 (by decide)).trans (W3_v1_2 m c)]
  rfl

theorem v2 : (W5 m c main_v2 : Vec Ideal S8192x8192 .fp8e4m3) = wCode (b m c) (y m c) :=
  (W5_of m c main_v2 (by decide)).trans ((W4_keeps m c main_v2 (by decide)).trans (W3_v2 m c))

theorem v5 : (W5 m c main_v5 : Vec Ideal S8x3072x8192 .fp8e5m2) = dyCode (a m c) (x m c) := by
  have h : (W5 m c main_v5 : Vec Ideal S8x3072x8192 .fp8e5m2) = shapeCast S8x3072x8192 (W4 m c main_v3_1 : Vec Ideal S24576x8192 .fp8e5m2) shapeCasts_S24576x8192_S8x3072x8192 := by
    unfold W5; after_results; rfl
  rw [h, show (W4 m c main_v3_1 : Vec Ideal S24576x8192 .fp8e5m2) = _ from (W4_arr m c 6).trans ((Arrays.codes_dy (fun c b => W3 m c b) c).trans (dyCodes_eq m c))]
  funext i
  refine congrArg (codeDy (F := Ideal) (dyInv (a m c))) ?_
  exact congrFun (shapeCast_shapeCast (x m c) shapeCasts_S8x3072x8192_S24576x8192 shapeCasts_S24576x8192_S8x3072x8192) i

theorem v4 : (W5 m c main_v4 : Vec Ideal S8x3072x8192 .bf16) = dx (a m c) (b m c) (x m c) (y m c) := by
  have h : (W5 m c main_v4 : Vec Ideal S8x3072x8192 .bf16) = shapeCast S8x3072x8192 (W4 m c main_v3_0 : Vec Ideal S3072x8x8192 .bf16) shapeCasts_S3072x8x8192_S8x3072x8192 := by
    unfold W5; after_results; rfl
  rw [h, show (W4 m c main_v3_0 : Vec Ideal S3072x8x8192 .bf16) = _ from (W4_arr m c 5).trans (Product.product (fun c b => W3 m c b) c)]
  have hs : Product.scale (fun c b => W3 m c b) c = dyScale (a m c) * wScale (b m c) := by
    unfold Product.scale
    show @HMul.hMul EReal EReal EReal _ ((W3 m c main_v1_0 : Vec Ideal S1x1 .f32) o11) ((W3 m c main_v1_2 : Vec Ideal S1x1 .f32) o11) = _
    rw [W3_v1_0, W3_v1_2]
  rw [hs, dyCodes_eq, W3_v2]
  funext i
  have h0 : (i 0).val < 8 := (i 0).isLt
  have h1 : (i 1).val < 3072 := (i 1).isLt
  have h2 : (i 2).val < 8192 := (i 2).isLt
  refine (Idealize.ShloMosaic.shapeCast_apply _ _ i (ix3 (⟨(3072 * (i 0).val + (i 1).val) / 8, by omega⟩ : Fin 3072) (⟨(3072 * (i 0).val + (i 1).val) % 8, by omega⟩ : Fin 8) (i 2)) ?_).trans ?_
  · rw [Shape.rowMajor_val_three, Shape.rowMajor_val_three]
    show ((3072 * (i 0).val + (i 1).val) / 8 * 8 + (3072 * (i 0).val + (i 1).val) % 8) * 8192 + (i 2).val = ((i 0).val * 3072 + (i 1).val) * 8192 + (i 2).val
    omega
  · unfold rowProd dx
    refine congrArg (· * (dyScale (a m c) * wScale (b m c))) (Finset.sum_congr rfl fun k _ => congrArg (· * wCode (b m c) (y m c) (ix2 (i 2) k)) ?_)
    refine congrArg (codeDy (F := Ideal) (dyInv (a m c))) (Idealize.ShloMosaic.shapeCast_apply _ _ _ (ix3 (i 0) (i 1) k) ?_)
    rw [Shape.rowMajor_val_three, Shape.rowMajor_val_two]
    show ((i 0).val * 3072 + (i 1).val) * 8192 + k.val = (8 * ((3072 * (i 0).val + (i 1).val) / 8) + (3072 * (i 0).val + (i 1).val) % 8) * 8192 + k.val
    omega

end Cert.KernelIdeal.Results

end
-- ==== Proof.V.HostScale.lean ====
/-
  The reference's scales. The host computes them with the same function of the largest magnitude as the kernel does,
  on arrays of rank zero and with a count over 254 places.
-/
module

public import proofs.«01_k».proof.Proof.V.Kernel
public import proofs.«01_k».proof.Proof.Gen.ReferenceIdeal.Value

@[expose] public section

set_option maxRecDepth 16384

noncomputable section

namespace Cert.ReferenceIdeal.HostScale

open Cert.ReferenceIdeal Cert.ReferenceIdeal.Gen Cert.Value
open Idealize.ShloMosaic Idealize.ShloMosaic.ValueIdx Idealize.ShloMosaic.TcCoe

variable {F : FTy → Type} [FloatOps F]

/-! ## The host's terms -/

/-- The host's count of the powers of two that are at most a number. -/
def countVec (x : Vec F S_ .f32) : Vec F S_ .i32 :=
  Host.reduce IntOp.addi
    (extui 32 (cmpf (F := F) (φ := .f32) .ole
      (bitcastToFloat .f32 (Host.shli (addi (iotaInDim S254 32 0) (broadcastInDim S254 ![] bcast_S_S254 (constantI S_ 32 1#32)))
        (broadcastInDim S254 ![] bcast_S_S254 (constantI S_ 32 23#32))))
      (broadcastInDim S254 ![] bcast_S_S254 x)) natLt_1_32)
    (constantI S_ 32 0#32) reducesTo_S254_S_d0 h_S_

/-- The host's exponent, from its count. -/
def expoVec (a x : Vec F S_ .f32) (n : Vec F S_ .i32) : Vec F S_ .i32 :=
  select (cmpf .oeq a (constant S_ .f32 0x00000000#32)) (constantI S_ 32 0#32)
    (select (ori (cmpi .eq n (constantI S_ 32 0#32)) (cmpf .oeq x (constant S_ .f32 0x7F800000#32))) (constantI S_ 32 0#32)
      (subi n (constantI S_ 32 126#32)))

/-- The host's power of two. -/
def twoToVec (F : FTy → Type) [FloatOps F] (e : Vec F S_ .i32) : Vec F S_ .f32 :=
  bitcastToFloat .f32 (Host.shli (minsi (constantI S_ 32 255#32) (maxsi (constantI S_ 32 0#32) (addi e (constantI S_ 32 127#32)))) (constantI S_ 32 23#32))

/-! ## Their one element -/

/-- The shift by 23 is the same on the host and in the kernel. -/
theorem shli_host (x : BitVec 32) : IntOp.shli .host x 23#32 = IntOp.shli .vector x 23#32 := by
  unfold IntOp.shli; rw [if_pos (by decide), if_pos (by decide)]

/-- The indices of a vector of 254 elements. -/
def idx254 : Fin 254 ≃ S254.Idx where
  toFun k := ix1 k
  invFun i := i 0
  left_inv k := rfl
  right_inv i := by funext a; fin_cases a; rfl

theorem countVec_apply (x : Vec F S_ .f32) (o : S_.Idx) : countVec x o = Value.count (x o) := by
  unfold countVec
  rw [Host.reduce_eq_fold]
  show Finset.fold IntOp.addi 0#32 _ _ = _
  rw [fold_addi, Finset.filter_true_of_mem (fun i _ => Subsingleton.elim _ _), ← Equiv.sum_comp idx254]
  unfold Value.count
  refine Finset.sum_congr rfl fun k _ => ?_
  show BitVec.setWidth 32 (FloatOps.cmpf (F := F) (φ := .f32) .ole (FloatOps.ofBits .f32 (IntOp.shli .host (IntOp.addi (BitVec.ofNat 32 k.val) 1#32) 23#32))
    (x _)) = _
  rw [shli_host, Subsingleton.elim o]
  rfl

theorem expoVec_apply (a x : Vec F S_ .f32) (q : F .f32) (o : S_.Idx) (hx : x o = FloatOps.mulf (F := F) (φ := .f32) (a o) q) :
    expoVec a x (countVec x) o = expo q (a o) := by
  unfold expo
  rw [← hx, ← countVec_apply]
  rfl

theorem twoToVec_apply (e : Vec F S_ .i32) (o : S_.Idx) : twoToVec F e o = twoTo F (e o) := by
  show FloatOps.ofBits .f32 (IntOp.shli .host _ 23#32) = _
  rw [shli_host]
  rfl

/-! ## The arrays the host leaves -/

variable (m : (ℓ : Loc nD τ sig) → Buf (Elt F) ℓ) (c : Dev nD)

/-- The largest magnitude of the first argument, as the host reduces it. -/
def amax0 : Vec F S_ .f32 :=
  extf .f32 (Host.reduce (FloatOps.maximumf (F := F) (φ := .bf16)) (Host.absf (m ((c.tc).loc main_arg0) : Vec F S8x3072x8192 .bf16))
    (constant S_ .bf16 0xFF80#16) reducesTo_S8x3072x8192_S_d0_1_2 h_S_) bitsLt_bf16_f32

/-- The largest magnitude of the second argument, as the host reduces it. -/
def amax1 : Vec F S_ .f32 :=
  Host.reduce (FloatOps.maximumf (F := F) (φ := .f32)) (Host.absf (m ((c.tc).loc main_arg1) : Vec F S8192x8192 .f32))
    (constant S_ .f32 0xFF800000#32) reducesTo_S8192x8192_S_d0_1 h_S_

/-- The two exponents. -/
def expo0 : Vec F S_ .i32 :=
  expoVec (amax0 m c) (mulf (amax0 m c) (constant S_ .f32 0x37924925#32)) (countVec (mulf (amax0 m c) (constant S_ .f32 0x37924925#32)))
def expo1 : Vec F S_ .i32 :=
  expoVec (amax1 m c) (mulf (amax1 m c) (constant S_ .f32 0x3B124925#32)) (countVec (mulf (amax1 m c) (constant S_ .f32 0x3B124925#32)))

set_option maxHeartbeats 2000000 in
theorem V_24 : (V m c main_v24 : Vec F S_ .f32) = twoToVec F (expo0 m c) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.cons_append, List.nil_append]
  after_results
  rfl

set_option maxHeartbeats 2000000 in
theorem V_29 : (V m c main_v29 : Vec F S_ .f32) = twoToVec F (negi (expo0 m c)) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.cons_append, List.nil_append]
  after_results
  rfl

set_option maxHeartbeats 2000000 in
theorem V_53 : (V m c main_v53 : Vec F S_ .f32) = twoToVec F (expo1 m c) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.cons_append, List.nil_append]
  after_results
  rfl

set_option maxHeartbeats 2000000 in
theorem V_58 : (V m c main_v58 : Vec F S_ .f32) = twoToVec F (negi (expo1 m c)) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.cons_append, List.nil_append]
  after_results
  rfl

/-- The four one-element arrays the region is given are the four scales. -/
theorem V_59 : (V m c main_v59 : Vec F S1x1 .f32) = shapeCast S1x1 (V m c main_v24 : Vec F S_ .f32) shapeCasts_S_S1x1 := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.cons_append, List.nil_append]
  after_results
  rfl

theorem V_60 : (V m c main_v60 : Vec F S1x1 .f32) = shapeCast S1x1 (V m c main_v29 : Vec F S_ .f32) shapeCasts_S_S1x1 := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.cons_append, List.nil_append]
  after_results
  rfl

theorem V_61 : (V m c main_v61 : Vec F S1x1 .f32) = shapeCast S1x1 (V m c main_v53 : Vec F S_ .f32) shapeCasts_S_S1x1 := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.cons_append, List.nil_append]
  after_results
  rfl

theorem V_62 : (V m c main_v62 : Vec F S1x1 .f32) = shapeCast S1x1 (V m c main_v58 : Vec F S_ .f32) shapeCasts_S_S1x1 := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.cons_append, List.nil_append]
  after_results
  rfl

end Cert.ReferenceIdeal.HostScale

end
-- ==== Proof.V.Body.lean ====
/-
  What the reference's body leaves: the two arrays of codes and the product, from the arrays and scales it reads.
-/
module

public import proofs.«01_k».proof.Proof.V.HostScale

@[expose] public section

set_option maxRecDepth 16384

noncomputable section

namespace Cert.ReferenceIdeal.Body

open Cert.ReferenceIdeal Cert.ReferenceIdeal.Gen Cert.Value
open Idealize.ShloMosaic Idealize.ShloMosaic.ValueIdx Idealize.ShloMosaic.TcCoe
open Idealize.ShloMosaic.Pipeline (Dat)

variable {F : FTy → Type} [FloatOps F]

/-- The one index of a one-element array. -/
abbrev o11 : S1x1.Idx := ix2 (0 : Fin 1) (0 : Fin 1)

theorem eq_o11 (i : S1x1.Idx) : i = o11 := by
  funext a; fin_cases a <;> exact Subsingleton.elim (α := Fin 1) _ _

theorem hz2 : (![0, 0] : Fin 2 → ℕ) = fun _ => 0 := by funext a; fin_cases a <;> rfl
theorem hz3 : (![0, 0, 0] : Fin 3 → ℕ) = fun _ => 0 := by funext a; fin_cases a <;> rfl

section
variable (c : Dev nD) (arg0 : Memref sig .tc .smem S1x1 .f32) (harg0 : arg0.IsWhole) (arg1 : Memref sig .tc .smem S1x1 .f32) (harg1 : arg1.IsWhole) (arg2 : Memref sig .tc .smem S1x1 .f32) (harg2 : arg2.IsWhole) (arg3 : Memref sig .tc .smem S1x1 .f32) (harg3 : arg3.IsWhole) (arg4 : Memref sig .tc .vmem S8x3072x8192 .bf16) (harg4 : arg4.IsWhole) (arg5 : Memref sig .tc .vmem S8192x8192 .f32) (harg5 : arg5.IsWhole) (arg6 : Memref sig .tc .vmem S8x3072x8192 .bf16) (harg6 : arg6.IsWhole) (arg7 : Memref sig .tc .vmem S8x3072x8192 .fp8e5m2) (harg7 : arg7.IsWhole) (arg8 : Memref sig .tc .vmem S8192x8192 .fp8e4m3) (harg8 : arg8.IsWhole)
    (x0 x1 x2 x3 : Vec F S1x1 .f32) (x4 : Vec F S8x3072x8192 .bf16) (x5 : Vec F S8192x8192 .f32)

theorem out_7 : out0_A_7 c arg0 harg0 arg1 harg1 arg2 harg2 arg3 harg3 arg4 harg4 arg5 harg5 arg6 harg6 arg7 harg7 arg8 harg8 x0 x1 x2 x3 x4 x5 = k0_pay1 x4 (x1 o11) := by
  unfold out0_A_7
  rw [View.read_writes_eq_canon _ _ _ (cover0_A_7 c arg0 harg0 arg1 harg1 arg2 harg2 arg3 harg3 arg4 harg4 arg5 harg5 arg6 harg6 arg7 harg7 arg8 harg8 x0 x1 x2 x3 x4 x5)]
  unfold kernelRun0_A
  dsimp only
  sl_unfold_words
  rw [View.canon_unit_zero hz3]
  simp only [View.readAt_eq_ld, harg1.read_unread, harg4.read_unread, View.ld_unit_zero (S := S8x3072x8192) hz3]
  exact congrArg (fun e => k0_pay1 x4 (x1 e)) (eq_o11 _)

theorem out_8 : out0_A_8 c arg0 harg0 arg1 harg1 arg2 harg2 arg3 harg3 arg4 harg4 arg5 harg5 arg6 harg6 arg7 harg7 arg8 harg8 x0 x1 x2 x3 x4 x5 = k0_pay2 x5 (x3 o11) := by
  unfold out0_A_8
  rw [View.read_writes_eq_canon _ _ _ (cover0_A_8 c arg0 harg0 arg1 harg1 arg2 harg2 arg3 harg3 arg4 harg4 arg5 harg5 arg6 harg6 arg7 harg7 arg8 harg8 x0 x1 x2 x3 x4 x5)]
  unfold kernelRun0_A
  dsimp only
  sl_unfold_words
  rw [View.canon_unit_zero hz2]
  simp only [View.readAt_eq_ld, harg3.read_unread, harg5.read_unread, View.ld_unit_zero (S := S8192x8192) hz2]
  exact congrArg (fun e => k0_pay2 x5 (x3 e)) (eq_o11 _)

theorem out_6 : out0_A_6 c arg0 harg0 arg1 harg1 arg2 harg2 arg3 harg3 arg4 harg4 arg5 harg5 arg6 harg6 arg7 harg7 arg8 harg8 x0 x1 x2 x3 x4 x5
    = k0_pay3 x4 (x1 o11) x5 (x3 o11) (x0 o11) (x2 o11) := by
  unfold out0_A_6
  rw [View.read_writes_eq_canon _ _ _ (cover0_A_6 c arg0 harg0 arg1 harg1 arg2 harg2 arg3 harg3 arg4 harg4 arg5 harg5 arg6 harg6 arg7 harg7 arg8 harg8 x0 x1 x2 x3 x4 x5)]
  unfold kernelRun0_A
  dsimp only
  sl_unfold_words
  rw [View.canon_unit_zero hz3]
  simp only [View.readAt_eq_ld, harg0.read_unread, harg1.read_unread, harg2.read_unread, harg3.read_unread, harg4.read_unread, harg5.read_unread,
    View.ld_unit_zero (S := S8x3072x8192) hz3, View.ld_unit_zero (S := S8192x8192) hz2]
  exact congrArg (fun e : S1x1.Idx => k0_pay3 x4 (x1 e) x5 (x3 e) (x0 e) (x2 e)) (eq_o11 _)

end

/-! ## The payloads, element by element -/

theorem pay1_apply (x : Vec F S8x3072x8192 .bf16) (s : F .f32) (i : S8x3072x8192.Idx) : k0_pay1 x s i = codeDy s (x i) := rfl
theorem pay2_apply (y : Vec F S8192x8192 .f32) (s : F .f32) (i : S8192x8192.Idx) : k0_pay2 y s i = codeW s (y i) := rfl

theorem pay3_apply (x : Vec F S8x3072x8192 .bf16) (s : F .f32) (y : Vec F S8192x8192 .f32) (t : F .f32) (s1 s2 : F .f32) (i : S8x3072x8192.Idx)
    (r : Fin 24576) (hr : r.val = 3072 * (i 0).val + (i 1).val) :
    k0_pay3 x s y t s1 s2 i = FloatOps.truncf .bf16 (φ := .f32) (by decide) (FloatOps.mulf (matmul dot_S24576x8192_S8192x8192_S24576x8192_1_1_0_0_n_n none
      (shapeCast S24576x8192 (k0_pay1 x s) shapeCasts_S8x3072x8192_S24576x8192) (k0_pay2 y t) (constant S24576x8192 .f32 0x00000000#32) (ix2 r (i 2)))
      (Scalar.mulf s1 s2)) := by
  unfold k0_pay3
  refine (Idealize.ShloMosaic.shapeCast_apply _ _ i (ix2 r (i 2)) ?_).trans rfl
  rw [Shape.rowMajor_val_two, Shape.rowMajor_val_three]
  show r.val * 8192 + (i 2).val = ((i 0).val * 3072 + (i 1).val) * 8192 + (i 2).val
  omega

/-! ## The blocks: each window is its whole array -/

variable (m : (ℓ : Loc nD τ sig) → Buf (Elt F) ℓ) (c : Dev nD)

theorem index_4 : ∀ t : Fin grid0.N, ∀ a, win0_4.index t a = 0 := by decide +kernel
theorem index_5 : ∀ t : Fin grid0.N, ∀ a, win0_5.index t a = 0 := by decide +kernel
theorem index_6 : ∀ t : Fin grid0.N, ∀ a, win0_6.index t a = 0 := by decide +kernel
theorem index_7 : ∀ t : Fin grid0.N, ∀ a, win0_7.index t a = 0 := by decide +kernel
theorem index_8 : ∀ t : Fin grid0.N, ∀ a, win0_8.index t a = 0 := by decide +kernel

theorem read_0 (t : Fin cfg0.N) (v : Vec F S1x1 .f32) : (((cfg0.win 0).blk t).view.read (Elt F) v : Vec F S1x1 .f32) o11 = v o11 := by
  rw [View.read_apply]; exact congrArg v (eq_o11 _)
theorem read_1 (t : Fin cfg0.N) (v : Vec F S1x1 .f32) : (((cfg0.win 1).blk t).view.read (Elt F) v : Vec F S1x1 .f32) o11 = v o11 := by
  rw [View.read_apply]; exact congrArg v (eq_o11 _)
theorem read_2 (t : Fin cfg0.N) (v : Vec F S1x1 .f32) : (((cfg0.win 2).blk t).view.read (Elt F) v : Vec F S1x1 .f32) o11 = v o11 := by
  rw [View.read_apply]; exact congrArg v (eq_o11 _)
theorem read_3 (t : Fin cfg0.N) (v : Vec F S1x1 .f32) : (((cfg0.win 3).blk t).view.read (Elt F) v : Vec F S1x1 .f32) o11 = v o11 := by
  rw [View.read_apply]; exact congrArg v (eq_o11 _)
theorem read_4 (t : Fin cfg0.N) (v : Vec F S8x3072x8192 .bf16) : (((cfg0.win 4).blk t).view.read (Elt F) v : Vec F S8x3072x8192 .bf16) = v := by
  funext i
  rw [View.read_apply]
  refine congrArg v (funext fun a => Fin.ext ?_)
  show win0_4.index t a * _ + 1 * (i a).val = (i a).val
  rw [index_4 t a]; omega
theorem read_5 (t : Fin cfg0.N) (v : Vec F S8192x8192 .f32) : (((cfg0.win 5).blk t).view.read (Elt F) v : Vec F S8192x8192 .f32) = v := by
  funext i
  rw [View.read_apply]
  refine congrArg v (funext fun a => Fin.ext ?_)
  show win0_5.index t a * _ + 1 * (i a).val = (i a).val
  rw [index_5 t a]; omega
theorem read_6 (t : Fin cfg0.N) (v : Vec F S8x3072x8192 .bf16) : (((cfg0.win 6).blk t).view.read (Elt F) v : Vec F S8x3072x8192 .bf16) = v := by
  funext i
  rw [View.read_apply]
  refine congrArg v (funext fun a => Fin.ext ?_)
  show win0_6.index t a * _ + 1 * (i a).val = (i a).val
  rw [index_6 t a]; omega
theorem read_7 (t : Fin cfg0.N) (v : Vec F S8x3072x8192 .fp8e5m2) : (((cfg0.win 7).blk t).view.read (Elt F) v : Vec F S8x3072x8192 .fp8e5m2) = v := by
  funext i
  rw [View.read_apply]
  refine congrArg v (funext fun a => Fin.ext ?_)
  show win0_7.index t a * _ + 1 * (i a).val = (i a).val
  rw [index_7 t a]; omega
theorem read_8 (t : Fin cfg0.N) (v : Vec F S8192x8192 .fp8e4m3) : (((cfg0.win 8).blk t).view.read (Elt F) v : Vec F S8192x8192 .fp8e4m3) = v := by
  funext i
  rw [View.read_apply]
  refine congrArg v (funext fun a => Fin.ext ?_)
  show win0_8.index t a * _ + 1 * (i a).val = (i a).val
  rw [index_8 t a]; omega

theorem iblk_0 (t : Fin cfg0.N) : (iblk m c 0 t : Vec F S1x1 .f32) o11 = (V m c main_v59 : Vec F S1x1 .f32) o11 := read_0 t _
theorem iblk_1 (t : Fin cfg0.N) : (iblk m c 1 t : Vec F S1x1 .f32) o11 = (V m c main_v60 : Vec F S1x1 .f32) o11 := read_1 t _
theorem iblk_2 (t : Fin cfg0.N) : (iblk m c 2 t : Vec F S1x1 .f32) o11 = (V m c main_v61 : Vec F S1x1 .f32) o11 := read_2 t _
theorem iblk_3 (t : Fin cfg0.N) : (iblk m c 3 t : Vec F S1x1 .f32) o11 = (V m c main_v62 : Vec F S1x1 .f32) o11 := read_3 t _
theorem iblk_4 (t : Fin cfg0.N) : (iblk m c 4 t : Vec F S8x3072x8192 .bf16) = (m ((c.tc).loc main_arg0) : Vec F S8x3072x8192 .bf16) :=
  (read_4 t _).trans (V_main_arg0 m c)
theorem iblk_5 (t : Fin cfg0.N) : (iblk m c 5 t : Vec F S8192x8192 .f32) = (m ((c.tc).loc main_arg1) : Vec F S8192x8192 .f32) :=
  (read_5 t _).trans (V_main_arg1 m c)

/-- The four scales, as the body reads them. -/
def s0 : F .f32 := (V m c main_v59 : Vec F S1x1 .f32) o11
def s1 : F .f32 := (V m c main_v60 : Vec F S1x1 .f32) o11
def s2 : F .f32 := (V m c main_v61 : Vec F S1x1 .f32) o11
def s3 : F .f32 := (V m c main_v62 : Vec F S1x1 .f32) o11

/-! An array is what the one point leaves of it. -/

theorem arr_6 (G : Vec F S8x3072x8192 .bf16) (hG : ∀ t, (dats m 0 c).flushed 6 t = G) : (dats m 0 c).arrAt 6 cfg0.N = G :=
  (dats m 0 c).arrAt_eq_of_cover 6 _ (fun t hf => (hG t).trans (read_6 t G).symm)
    fun i => by
      refine ⟨t0_0, flush0_6 _, ?_⟩
      show i ∈ ((View.whole main_v63_0).slice (win0_6.rect t0_0)).set
      rw [View.set_slice_whole, Rect.mem_set_unit]
      intro a
      show win0_6.index t0_0 a * S8x3072x8192.size a ≤ (i a).val ∧ (i a).val < win0_6.index t0_0 a * S8x3072x8192.size a + S8x3072x8192.size a
      have : (i a).val < S8x3072x8192.size a := (i a).isLt
      rw [index_6 t0_0 a]; omega

theorem arr_7 (G : Vec F S8x3072x8192 .fp8e5m2) (hG : ∀ t, (dats m 0 c).flushed 7 t = G) : (dats m 0 c).arrAt 7 cfg0.N = G :=
  (dats m 0 c).arrAt_eq_of_cover 7 _ (fun t hf => (hG t).trans (read_7 t G).symm)
    fun i => by
      refine ⟨t0_0, flush0_7 _, ?_⟩
      show i ∈ ((View.whole main_v63_1).slice (win0_7.rect t0_0)).set
      rw [View.set_slice_whole, Rect.mem_set_unit]
      intro a
      show win0_7.index t0_0 a * S8x3072x8192.size a ≤ (i a).val ∧ (i a).val < win0_7.index t0_0 a * S8x3072x8192.size a + S8x3072x8192.size a
      have : (i a).val < S8x3072x8192.size a := (i a).isLt
      rw [index_7 t0_0 a]; omega

theorem arr_8 (G : Vec F S8192x8192 .fp8e4m3) (hG : ∀ t, (dats m 0 c).flushed 8 t = G) : (dats m 0 c).arrAt 8 cfg0.N = G :=
  (dats m 0 c).arrAt_eq_of_cover 8 _ (fun t hf => (hG t).trans (read_8 t G).symm)
    fun i => by
      refine ⟨t0_0, flush0_8 _, ?_⟩
      show i ∈ ((View.whole main_v63_2).slice (win0_8.rect t0_0)).set
      rw [View.set_slice_whole, Rect.mem_set_unit]
      intro a
      show win0_8.index t0_0 a * S8192x8192.size a ≤ (i a).val ∧ (i a).val < win0_8.index t0_0 a * S8192x8192.size a + S8192x8192.size a
      have : (i a).val < S8192x8192.size a := (i a).isLt
      rw [index_8 t0_0 a]; omega

end Cert.ReferenceIdeal.Body

end
-- ==== Proof.V.Reference.lean ====
/-
  The reference's results at the exact numbers: they are the same functions of the two arguments and their largest
  magnitudes as the kernel's results are.
-/
module

public import proofs.«01_k».proof.Proof.V.Body

@[expose] public section

set_option maxRecDepth 16384

noncomputable section

namespace Cert.ReferenceIdeal.Results

open Cert.ReferenceIdeal Cert.ReferenceIdeal.Gen Cert.ReferenceIdeal.Body Cert.ReferenceIdeal.HostScale Cert.Value
open Idealize.ShloMosaic Idealize.ShloMosaic.ValueIdx Idealize.ShloMosaic.TcCoe

/-- The one index of a number. -/
def o : S_.Idx := Shape.Idx.first h_S_

section
variable {F : FTy → Type} [FloatOps F]
variable (m : (ℓ : Loc nD τ sig) → Buf (Elt F) ℓ) (c : Dev nD)

theorem expo0_apply : expo0 m c o = expo (invE5m2 F) (amax0 m c o) := expoVec_apply _ _ _ _ rfl
theorem expo1_apply : expo1 m c o = expo (invE4m3 F) (amax1 m c o) := expoVec_apply _ _ _ _ rfl

theorem v24 : (V m c main_v24 : Vec F S_ .f32) o = twoTo F (expo (invE5m2 F) (amax0 m c o)) := by
  rw [V_24, twoToVec_apply, expo0_apply]
theorem v29 : (V m c main_v29 : Vec F S_ .f32) o = twoTo F (-expo (invE5m2 F) (amax0 m c o)) := by
  rw [V_29, twoToVec_apply, ← expo0_apply]; rfl
theorem v53 : (V m c main_v53 : Vec F S_ .f32) o = twoTo F (expo (invE4m3 F) (amax1 m c o)) := by
  rw [V_53, twoToVec_apply, expo1_apply]
theorem v58 : (V m c main_v58 : Vec F S_ .f32) o = twoTo F (-expo (invE4m3 F) (amax1 m c o)) := by
  rw [V_58, twoToVec_apply, ← expo1_apply]; rfl

theorem scalar_reshape (v : Vec F S_ .f32) : shapeCast S1x1 v shapeCasts_S_S1x1 o11 = v o := congrArg v (Subsingleton.elim _ _)

theorem s0_eq : s0 m c = twoTo F (expo (invE5m2 F) (amax0 m c o)) := by unfold s0; rw [V_59, scalar_reshape, v24]
theorem s1_eq : s1 m c = twoTo F (-expo (invE5m2 F) (amax0 m c o)) := by unfold s1; rw [V_60, scalar_reshape, v29]
theorem s2_eq : s2 m c = twoTo F (expo (invE4m3 F) (amax1 m c o)) := by unfold s2; rw [V_61, scalar_reshape, v53]
theorem s3_eq : s3 m c = twoTo F (-expo (invE4m3 F) (amax1 m c o)) := by unfold s3; rw [V_62, scalar_reshape, v58]

/-- A window that is its whole array cuts nothing off its block. -/
theorem cut_6 (t : Fin cfg0.N) (G : Vec F S8x3072x8192 .bf16) : (cfg0.win 6).cut (grid0.coords t) G = G := rfl
theorem cut_7 (t : Fin cfg0.N) (G : Vec F S8x3072x8192 .fp8e5m2) : (cfg0.win 7).cut (grid0.coords t) G = G := rfl
theorem cut_8 (t : Fin cfg0.N) (G : Vec F S8192x8192 .fp8e4m3) : (cfg0.win 8).cut (grid0.coords t) G = G := rfl

theorem iblk_s0 (t : Fin cfg0.N) : (iblk m c 0 t : Vec F S1x1 .f32) o11 = s0 m c := iblk_0 m c t
theorem iblk_s1 (t : Fin cfg0.N) : (iblk m c 1 t : Vec F S1x1 .f32) o11 = s1 m c := iblk_1 m c t
theorem iblk_s2 (t : Fin cfg0.N) : (iblk m c 2 t : Vec F S1x1 .f32) o11 = s2 m c := iblk_2 m c t
theorem iblk_s3 (t : Fin cfg0.N) : (iblk m c 3 t : Vec F S1x1 .f32) o11 = s3 m c := iblk_3 m c t

/-- The arrays the region leaves, from the arguments and the scales. -/
theorem codes_dy : (dats m 0 c).arrAt 7 cfg0.N = k0_pay1 (m ((c.tc).loc main_arg0) : Vec F S8x3072x8192 .bf16) (s1 m c) :=
  arr_7 m c _ fun t => by
    rw [Value.flushed7_A, out_7, iblk_s1, iblk_4]
    exact cut_7 t _

theorem codes_w : (dats m 0 c).arrAt 8 cfg0.N = k0_pay2 (m ((c.tc).loc main_arg1) : Vec F S8192x8192 .f32) (s3 m c) :=
  arr_8 m c _ fun t => by
    rw [Value.flushed8_A, out_8, iblk_s3, iblk_5]
    exact cut_8 t _

theorem product : (dats m 0 c).arrAt 6 cfg0.N = k0_pay3 (m ((c.tc).loc main_arg0) : Vec F S8x3072x8192 .bf16) (s1 m c)
    (m ((c.tc).loc main_arg1) : Vec F S8192x8192 .f32) (s3 m c) (s0 m c) (s2 m c) :=
  arr_6 m c _ fun t => by
    rw [Value.flushed6_A, out_6, iblk_s0, iblk_s1, iblk_s2, iblk_s3, iblk_4, iblk_5]
    exact cut_6 t _

end

/-! ## At the exact numbers -/

variable (m : (ℓ : Loc nD τ sig) → Buf (Elt Ideal) ℓ) (c : Dev nD)

/-- The two arguments. -/
def x : Vec Ideal S8x3072x8192 .bf16 := m ((c.tc).loc main_arg0)
def y : Vec Ideal S8192x8192 .f32 := m ((c.tc).loc main_arg1)

/-- Their largest magnitudes, as the host leaves them. -/
def a : EReal := amax0 m c o
def b : EReal := amax1 m c o

/-- Widening is the identity. -/
theorem extf_ideal (v : FVec Ideal S_ .bf16) (i : S_.Idx) : extf (F := Ideal) .f32 v bitsLt_bf16_f32 i = v i := rfl

theorem a_amax : IsAmax (a m c) (x m c) := by
  unfold a amax0
  rw [extf_ideal]
  exact host_reduce_amax (φ := .bf16) (x m c) (constant S_ .bf16 0xFF80#16) reducesTo_S8x3072x8192_S_d0_1_2 h_S_ o (fun _ => Subsingleton.elim _ _) neg_inf_bf16

theorem b_amax : IsAmax (b m c) (y m c) := by
  unfold b amax1
  exact host_reduce_amax (φ := .f32) (y m c) (constant S_ .f32 0xFF800000#32) reducesTo_S8192x8192_S_d0_1 h_S_ o (fun _ => Subsingleton.elim _ _) neg_inf_f32

theorem s0_ideal : s0 m c = dyScale (a m c) := s0_eq m c
theorem s1_ideal : s1 m c = dyInv (a m c) := s1_eq m c
theorem s2_ideal : s2 m c = wScale (b m c) := s2_eq m c
theorem s3_ideal : s3 m c = wInv (b m c) := s3_eq m c

/-- The gradient's scale, -/
theorem v24_ideal : (V m c main_v24 : Vec Ideal S_ .f32) = fun _ => dyScale (a m c) :=
  funext fun i : S_.Idx => (congrArg (V m c main_v24 : Vec Ideal S_ .f32) (Subsingleton.elim i o)).trans (v24 m c)
/-- and the weights'. -/
theorem v53_ideal : (V m c main_v53 : Vec Ideal S_ .f32) = fun _ => wScale (b m c) :=
  funext fun i : S_.Idx => (congrArg (V m c main_v53 : Vec Ideal S_ .f32) (Subsingleton.elim i o)).trans (v53 m c)

theorem pay1_ideal (X : Vec Ideal S8x3072x8192 .bf16) (a : EReal) : k0_pay1 (F := Ideal) X (dyInv a) = dyCode a X := by
  funext i; exact pay1_apply (F := Ideal) X (dyInv a) i
theorem pay2_ideal (Y : Vec Ideal S8192x8192 .f32) (b : EReal) : k0_pay2 (F := Ideal) Y (wInv b) = wCode b Y := by
  funext i; exact pay2_apply (F := Ideal) Y (wInv b) i

/-- The codes of the gradient, -/
theorem v63_1 : (dats m 0 c).arrAt 7 cfg0.N = dyCode (a m c) (x m c) :=
  (codes_dy m c).trans (by rw [s1_ideal]; exact pay1_ideal _ _)

/-- the codes of the weights, -/
theorem v63_2 : (dats m 0 c).arrAt 8 cfg0.N = wCode (b m c) (y m c) :=
  (codes_w m c).trans (by rw [s3_ideal]; exact pay2_ideal _ _)

theorem pay3_ideal (X : Vec Ideal S8x3072x8192 .bf16) (Y : Vec Ideal S8192x8192 .f32) (a b : EReal) :
    k0_pay3 (F := Ideal) X (dyInv a) Y (wInv b) (dyScale a) (wScale b) = dx a b X Y := by
  funext i
  have h0 : (i 0).val < 8 := (i 0).isLt
  have h1 : (i 1).val < 3072 := (i 1).isLt
  rw [pay3_apply (F := Ideal) X (dyInv a) Y (wInv b) (dyScale a) (wScale b) i ⟨3072 * (i 0).val + (i 1).val, by omega⟩ rfl, pay1_ideal, pay2_ideal]
  show matmul (F := Ideal) dot_S24576x8192_S8192x8192_S24576x8192_1_1_0_0_n_n none _ _ _ _ * (dyScale a * wScale b) = _
  unfold dx
  refine congrArg (· * (dyScale a * wScale b)) ((matmul_rows (φ₁ := .fp8e5m2) (φ₂ := .fp8e4m3) dot_S24576x8192_S8192x8192_S24576x8192_1_1_0_0_n_n rfl _ _ _ _).trans ?_)
  refine Finset.sum_congr rfl fun k _ => ?_
  refine congrArg (· * wCode b Y (ix2 (i 2) k)) ?_
  refine Idealize.ShloMosaic.shapeCast_apply _ _ _ (ix3 (i 0) (i 1) k) ?_
  rw [Shape.rowMajor_val_two, Shape.rowMajor_val_three]
  show ((i 0).val * 3072 + (i 1).val) * 8192 + k.val = (3072 * (i 0).val + (i 1).val) * 8192 + k.val
  omega

/-- and the gradient of the input. -/
theorem v63_0 : (dats m 0 c).arrAt 6 cfg0.N = dx (a m c) (b m c) (x m c) (y m c) :=
  (product m c).trans (by rw [s0_ideal, s1_ideal, s2_ideal, s3_ideal]; exact pay3_ideal _ _ _ _)

end Cert.ReferenceIdeal.Results

end
-- ==== Proof.V.Claim.lean ====
/-
  The value claim: at the exact numbers, from equal arguments, the kernel and the reference leave the same five arrays.
-/
module

public import proofs.«01_k».proof.Defs
public import proofs.«01_k».proof.Proof.V.Reference

@[expose] public section

set_option maxRecDepth 16384

noncomputable section

namespace Cert.KernelIdeal.Results

open Cert.KernelIdeal Cert.KernelIdeal.Gen Cert.KernelIdeal.Run Cert.Value
open Idealize.ShloMosaic Idealize.SL.Sem Idealize.ShloMosaic.TcCoe

/-- What the kernel's program leaves. -/
theorem post (m : (ℓ : Loc nD τ sig) → Buf (Elt Ideal) ℓ) (g : Dev nD → PrngReg) :
    θ_run defs (onTc (τ := τ) (main (F := Ideal))) ⟨m, fun _ => 0, g⟩ (fun r => ∀ c : Dev nD,
      r.2.mem ((c.tc : Thread nD τ).loc main_v4) = dx (a m c) (b m c) (x m c) (y m c)
      ∧ r.2.mem ((c.tc : Thread nD τ).loc main_v5) = dyCode (a m c) (x m c)
      ∧ r.2.mem ((c.tc : Thread nD τ).loc main_v6) = (fun _ => dyScale (a m c))
      ∧ r.2.mem ((c.tc : Thread nD τ).loc main_v2) = wCode (b m c) (y m c)
      ∧ r.2.mem ((c.tc : Thread nD τ).loc main_v7) = (fun _ => wScale (b m c))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run _ _ _).mono (fun r h c => ⟨(h.1 c main_v4 rfl).trans (v4 m c), (h.1 c main_v5 rfl).trans (v5 m c), (h.1 c main_v6 rfl).trans (v6 m c),
    (h.1 c main_v2 rfl).trans (v2 m c), (h.1 c main_v7 rfl).trans (v7 m c), (h.1 c main_arg0 rfl).trans (W5_arg0 m c),
    (h.1 c main_arg1 rfl).trans (W5_arg1 m c)⟩) (run m g)

end Cert.KernelIdeal.Results

namespace Cert.ReferenceIdeal.Results

open Cert.ReferenceIdeal Cert.ReferenceIdeal.Gen Cert.Value
open Idealize.ShloMosaic Idealize.SL.Sem Idealize.ShloMosaic.TcCoe

/-- What the reference leaves. -/
theorem post (m : (ℓ : Loc nD τ sig) → Buf (Elt Ideal) ℓ) (g : Dev nD → PrngReg) :
    θ_run defs (onTc (τ := τ) (main (F := Ideal))) ⟨m, fun _ => 0, g⟩ (fun r => ∀ c : Dev nD,
      r.2.mem ((c.tc : Thread nD τ).loc main_v63_0) = dx (a m c) (b m c) (x m c) (y m c)
      ∧ r.2.mem ((c.tc : Thread nD τ).loc main_v63_1) = dyCode (a m c) (x m c)
      ∧ r.2.mem ((c.tc : Thread nD τ).loc main_v24) = (fun _ => dyScale (a m c))
      ∧ r.2.mem ((c.tc : Thread nD τ).loc main_v63_2) = wCode (b m c) (y m c)
      ∧ r.2.mem ((c.tc : Thread nD τ).loc main_v53) = (fun _ => wScale (b m c))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run _ _ _).mono (fun r h c => ⟨(Value.post6 m r h c).trans (v63_0 m c), (Value.post7 m r h c).trans (v63_1 m c),
    ((h c).2 main_v24 (by decide +kernel)).trans (v24_ideal m c), (Value.post8 m r h c).trans (v63_2 m c),
    ((h c).2 main_v53 (by decide +kernel)).trans (v53_ideal m c), Value.kept_main_arg0 m r h c, Value.kept_main_arg1 m r h c⟩) (run_main m g)

end Cert.ReferenceIdeal.Results

namespace Cert.Value

open Idealize.ShloMosaic Idealize.SL.Sem Idealize.ShloMosaic.TcCoe

/-- From equal arguments the largest magnitudes are equal, so every result is the same function of the same things. -/
theorem algebraic : algebraic_KernelIdeal_ReferenceIdeal (hKernelIdeal := Cert.KernelIdeal.Gen.facts) (hReferenceIdeal := Cert.ReferenceIdeal.Gen.facts) := by
  intro m g m' g' _ hm
  have hx : ∀ c, ReferenceIdeal.Results.x m' c = KernelIdeal.Results.x m c := fun c => (hm c).1
  have hy : ∀ c, ReferenceIdeal.Results.y m' c = KernelIdeal.Results.y m c := fun c => (hm c).2
  have ha : ∀ c, ReferenceIdeal.Results.a m' c = KernelIdeal.Results.a m c := fun c =>
    IsAmax.unique (by have h := ReferenceIdeal.Results.a_amax m' c; rw [hx c] at h; exact h) (KernelIdeal.Results.a_amax m c)
  have hb : ∀ c, ReferenceIdeal.Results.b m' c = KernelIdeal.Results.b m c := fun c =>
    IsAmax.unique (by have h := ReferenceIdeal.Results.b_amax m' c; rw [hy c] at h; exact h) (KernelIdeal.Results.b_amax m c)
  refine ⟨_, _, _, _, _, KernelIdeal.Results.post m g, ?_⟩
  refine (θ_run _ _ _).mono (fun r h c => ?_) (ReferenceIdeal.Results.post m' g')
  have h' := h c
  rw [ha c, hb c, hx c, hy c] at h'
  exact h'

end Cert.Value

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.P.Run
public import proofs.«01_k».proof.Proof.PI.Run
public import proofs.«01_k».proof.Proof.V.Claim
public import Idealize.ShloMosaic.Adequacy
public import Idealize.ShloMosaic.Init

@[expose] public section

noncomputable section

namespace Cert.Proof

open Idealize.ShloMosaic Idealize.SL.Sem Cert.Kernel

/-- Every claim of the certificate: the three programs leave their arguments and counters as they should, the ideal
    kernel is the kernel at the ideal numbers, and at those numbers it computes what the reference computes. -/
theorem claim : Cert.Claim := ⟨Cert.Kernel.Gen.facts, Cert.KernelIdeal.Gen.facts, Cert.ReferenceIdeal.Gen.facts,
  fun m g _ => Cert.Kernel.Run.frame m g, fun m g _ => Cert.KernelIdeal.Run.frame m g,
  fun m g _ => Cert.ReferenceIdeal.Gen.frame m g, by trivial, Cert.Value.algebraic⟩

end Cert.Proof

end
